-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_recovered [hKernelIdeal : Cert.KernelIdeal.Facts] [hReferenceIdeal : Cert.ReferenceIdeal.Facts] [hOn_recovered : Cert.On_recovered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 8192]⟩ ⟨2, ![1024, 16384]⟩ (Layout.meshBlock [2, 2] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 32]⟩ : Shape).Idx, (Cert.On_recovered.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 32]⟩ : Shape).Idx, (Cert.On_recovered.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_recovered : Cert.On_recovered.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_recovered (hKernelIdeal := hKernelIdeal) (hReferenceIdeal := hReferenceIdeal) (hOn_recovered := hOn_recovered)
-- ==== On_recovered.lean ====
abbrev S1024x16384 : Shape := ⟨2, ![1024, 16384]⟩
abbrev S1024x2x16x512 : Shape := ⟨4, ![1024, 2, 16, 512]⟩
abbrev S1024x2x1x512 : Shape := ⟨4, ![1024, 2, 1, 512]⟩
abbrev S1024x2x512 : Shape := ⟨3, ![1024, 2, 512]⟩
abbrev S1024x2x64 : Shape := ⟨3, ![1024, 2, 64]⟩
abbrev S1024x2x448 : Shape := ⟨3, ![1024, 2, 448]⟩
abbrev S1024x2x1024 : Shape := ⟨3, ![1024, 2, 1024]⟩
abbrev S1024x2x8x128 : Shape := ⟨4, ![1024, 2, 8, 128]⟩
abbrev S1024x2x8192 : Shape := ⟨3, ![1024, 2, 8192]⟩
abbrev S1024x2x8191 : Shape := ⟨3, ![1024, 2, 8191]⟩
abbrev S_ : Shape := ⟨0, ![]⟩
abbrev S1024 : Shape := ⟨1, ![1024]⟩
abbrev S1024x2x1x128 : Shape := ⟨4, ![1024, 2, 1, 128]⟩
abbrev S1024x2x128 : Shape := ⟨3, ![1024, 2, 128]⟩
abbrev S1024x32 : Shape := ⟨2, ![1024, 32]⟩
abbrev S1024x32x1 : Shape := ⟨3, ![1024, 32, 1]⟩
abbrev S1 : Shape := ⟨1, ![1]⟩
abbrev S1x1x1 : Shape := ⟨3, ![1, 1, 1]⟩
abbrev S1024x1 : Shape := ⟨2, ![1024, 1]⟩

class Facts : Prop where
  shapeCasts_S1024x16384_S1024x2x16x512 : S1024x16384.ShapeCasts S1024x2x16x512
  slices_S1024x2x16x512_S1024x2x1x512_0_0_15_0 : S1024x2x16x512.Slices ![0, 0, 15, 0] S1024x2x1x512
  shapeCasts_S1024x2x1x512_S1024x2x512 : S1024x2x1x512.ShapeCasts S1024x2x512
  slices_S1024x2x16x512_S1024x2x1x512_0_0_14_0 : S1024x2x16x512.Slices ![0, 0, 14, 0] S1024x2x1x512
  slices_S1024x2x16x512_S1024x2x1x512_0_0_13_0 : S1024x2x16x512.Slices ![0, 0, 13, 0] S1024x2x1x512
  slices_S1024x2x512_S1024x2x64_0_0_448 : S1024x2x512.Slices ![0, 0, 448] S1024x2x64
  slices_S1024x2x512_S1024x2x448_0_0_0 : S1024x2x512.Slices ![0, 0, 0] S1024x2x448
  concatenates_S1024x2x64_S1024x2x448_S1024x2x512_d2 : Shape.Concatenates [S1024x2x64, S1024x2x448] S1024x2x512 2
  concatenates_S1024x2x512_S1024x2x512_S1024x2x1024_d2 : Shape.Concatenates [S1024x2x512, S1024x2x512] S1024x2x1024 2
  shapeCasts_S1024x2x1024_S1024x2x8x128 : S1024x2x1024.ShapeCasts S1024x2x8x128
  shapeCasts_S1024x16384_S1024x2x8192 : S1024x16384.ShapeCasts S1024x2x8192
  slices_S1024x2x8192_S1024x2x8191_0_0_0 : S1024x2x8192.Slices ![0, 0, 0] S1024x2x8191
  slices_S1024x2x8192_S1024x2x8191_0_0_1 : S1024x2x8192.Slices ![0, 0, 1] S1024x2x8191
  bcast_S_S1024x2x8191 : S_.BroadcastsInDim S1024x2x8191 (![] : Fin 0 → Fin S1024x2x8191.rank)
  reducesTo_S1024x2x512_S1024_d1_2 : S1024x2x512.ReducesTo [1, 2] S1024
  h_S_ : 0 < S_.numel
  slices_S1024x2x8x128_S1024x2x1x128_0_0_5_0 : S1024x2x8x128.Slices ![0, 0, 5, 0] S1024x2x1x128
  shapeCasts_S1024x2x1x128_S1024x2x128 : S1024x2x1x128.ShapeCasts S1024x2x128
  reducesTo_S1024x2x128_S1024_d1_2 : S1024x2x128.ReducesTo [1, 2] S1024
  reducesTo_S1024x2x8191_S1024_d1_2 : S1024x2x8191.ReducesTo [1, 2] S1024
  slices_S1024x16384_S1024x32_0_0 : S1024x16384.Slices ![0, 0] S1024x32
  bcast_S_S1024x32 : S_.BroadcastsInDim S1024x32 (![] : Fin 0 → Fin S1024x32.rank)
  shapeCasts_S1024x32_S1024x32x1 : S1024x32.ShapeCasts S1024x32x1
  bcast_S_S1024x32x1 : S_.BroadcastsInDim S1024x32x1 (![] : Fin 0 → Fin S1024x32x1.rank)
  bcast_S1_S1x1x1_2 : S1.BroadcastsInDim S1x1x1 (![2] : Fin 1 → Fin S1x1x1.rank)
  bcast_S1x1x1_S1024x32x1_0_1_2 : S1x1x1.BroadcastsInDim S1024x32x1 (![0, 1, 2] : Fin 3 → Fin S1024x32x1.rank)
  reducesTo_S1024x32x1_S1024x32_d2 : S1024x32x1.ReducesTo [2] S1024x32
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  gather_S1024x16384_S1024x32x1_S1024x32_n_1_0_0_1_2_11_wf : GatherDims.WF S1024x16384 S1024x32x1 S1024x32 [] [1] [0] [1] [0] 2 ![1, 1]

variable [Facts]

variable {F : FTy → Type} [FloatOps F]
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S1024x16384_S1024x32x1_S1024x32_n_1_0_0_1_2_11 : GatherDims S1024x16384 S1024x32x1 S1024x32 where
  offsetDims := []
  collapsedSliceDims := [1]
  operandBatchingDims := [0]
  startIndicesBatchingDims := [0]
  startIndexMap := [1]
  indexVectorDim := 2
  sliceSizes := ![1, 1]
  wf := gather_S1024x16384_S1024x32x1_S1024x32_n_1_0_0_1_2_11_wf

def fn_sort {F : FTy → Type} [FloatOps F] (arg0 : FVec F S1024x2x16x512 .f32) : FVec F S1024x2x16x512 .f32 :=
  let v0 : FVec F S1024x2x16x512 .f32 := (fun x => Host.sort S1024x2x16x512 2 comparator_f32_d2 x) arg0
  v0

def fn_roll_static {F : FTy → Type} [FloatOps F] (arg0 : FVec F S1024x2x512 .f32) : FVec F S1024x2x512 .f32 :=
  let v0 : FVec F S1024x2x64 .f32 := (extractStridedSlice S1024x2x64 ![0, 0, 448] · slices_S1024x2x512_S1024x2x64_0_0_448) arg0
  let v1 : FVec F S1024x2x448 .f32 := (extractStridedSlice S1024x2x448 ![0, 0, 0] · slices_S1024x2x512_S1024x2x448_0_0_0) arg0
  let v2 : FVec F S1024x2x512 .f32 := (fun a b => concatenate S1024x2x512 2 [⟨S1024x2x64, a⟩, ⟨S1024x2x448, b⟩] concatenates_S1024x2x64_S1024x2x448_S1024x2x512_d2) v0 v1
  v2

def fn_sort_0 {F : FTy → Type} [FloatOps F] (arg0 : FVec F S1024x2x8x128 .f32) : FVec F S1024x2x8x128 .f32 :=
  let v0 : FVec F S1024x2x8x128 .f32 := (fun x => Host.sort S1024x2x8x128 2 comparator_f32_d2 x) arg0
  v0

def fn_sort_1 {F : FTy → Type} [FloatOps F] (arg0 : FVec F S1024x2x8192 .f32) : FVec F S1024x2x8192 .f32 :=
  let v0 : FVec F S1024x2x8192 .f32 := (fun x => Host.sort S1024x2x8192 2 comparator_f32_d2 x) arg0
  v0

def fn_where {F : FTy → Type} [FloatOps F] (arg0 : IVec S1024x2x8191 1) (arg1 : FVec F S1024x2x8191 .f32) (arg2 : FVec F S_ .f32) : FVec F S1024x2x8191 .f32 :=
  let v0 : FVec F S_ .f32 := id arg2
  let v1 : FVec F S1024x2x8191 .f32 := broadcastInDim S1024x2x8191 ![] bcast_S_S1024x2x8191 v0
  let v2 : FVec F S1024x2x8191 .f32 := select arg0 arg1 v1
  v2

def fn_argsort {F : FTy → Type} [FloatOps F] (arg0 : FVec F S1024x16384 .f32) : IVec S1024x16384 32 :=
  let v0 : IVec S1024x16384 32 := iotaInDim S1024x16384 32 1
  let v1_0 : FVec F S1024x16384 .f32 := (fun x y => (Host.sort2 S1024x16384 1 comparator_f32_i32_d1 x y).1) arg0 v0
  let v1_1 : IVec S1024x16384 32 := (fun x y => (Host.sort2 S1024x16384 1 comparator_f32_i32_d1 x y).2) arg0 v0
  v1_1

def fn_take_along_axis {F : FTy → Type} [FloatOps F] (arg0 : FVec F S1024x16384 .f32) (arg1 : IVec S1024x32 32) : FVec F S1024x32 .f32 :=
  let c : IVec S_ 32 := constantI S_ 32 0#32
  let v0 : IVec S1024x32 32 := broadcastInDim S1024x32 ![] bcast_S_S1024x32 c
  let v1 : IVec S1024x32 1 := cmpi .slt arg1 v0
  let c_0 : IVec S_ 32 := constantI S_ 32 16384#32
  let v2 : IVec S1024x32 32 := broadcastInDim S1024x32 ![] bcast_S_S1024x32 c_0
  let v3 : IVec S1024x32 32 := addi arg1 v2
  let v4 : IVec S1024x32 32 := select v1 v3 arg1
  let v5 : IVec S1024x32x1 32 := shapeCast S1024x32x1 v4 shapeCasts_S1024x32_S1024x32x1
  let c_1 : IVec S1 32 := constantI S1 32 16383#32
  let c_2 : IVec S_ 32 := constantI S_ 32 0#32
  let v6 : IVec S1024x32x1 32 := broadcastInDim S1024x32x1 ![] bcast_S_S1024x32x1 c_2
  let v7 : IVec S1024x32x1 1 := cmpi .sge v5 v6
  let v8 : IVec S1x1x1 32 := broadcastInDim S1x1x1 ![2] bcast_S1_S1x1x1_2 c_1
  let v9 : IVec S1024x32x1 32 := broadcastInDim S1024x32x1 ![0, 1, 2] bcast_S1x1x1_S1024x32x1_0_1_2 v8
  let v10 : IVec S1024x32x1 1 := cmpi .sle v5 v9
  let v11 : IVec S1024x32x1 1 := andi v7 v10
  let c_3 : IVec S_ 1 := constantI S_ 1 1#1
  let v12 : IVec S1024x32 1 := (fun x v => Host.reduce IntOp.andi x v reducesTo_S1024x32x1_S1024x32_d2 h_S_) v11 c_3
  let v13 : FVec F S1024x32 .f32 := (fun x i => Host.gather gather_S1024x16384_S1024x32x1_S1024x32_n_1_0_0_1_2_11 x i) arg0 v5
  let cst : FVec F S_ .f32 := constant S_ .f32 0x7FC00000#32
  let v14 : FVec F S1024x32 .f32 := broadcastInDim S1024x32 ![] bcast_S_S1024x32 cst
  let v15 : FVec F S1024x32 .f32 := select v12 v13 v14
  v15

def fn_part1 {F : FTy → Type} [FloatOps F] (main_arg0 : FVec F S1024x16384 .f32) (main_v18 : FVec F S1024x2x8191 .f32) (main_v19 : FVec F S1024 .f32) (main_v21 : FVec F S1024x2x128 .f32) : IVec S1024x32 1 :=
  let main_cst_1 : FVec F S_ .f32 := constant S_ .f32 0xFF800000#32
  let main_v22 : FVec F S1024 .f32 := (fun x v => Host.reduce FloatOps.maximumf x v reducesTo_S1024x2x128_S1024_d1_2 h_S_) main_v21 main_cst_1
  let main_v23 : FVec F S1024 .f32 := maximumf main_v19 main_v22
  let main_cst_2 : FVec F S_ .f32 := constant S_ .f32 0xFF800000#32
  let main_v24 : FVec F S1024 .f32 := (fun x v => Host.reduce FloatOps.maximumf x v reducesTo_S1024x2x8191_S1024_d1_2 h_S_) main_v18 main_cst_2
  let main_v25 : FVec F S1024 .f32 := maximumf main_v23 main_v24
  let main_v26 : FVec F S1024x16384 .f32 := Host.negf main_arg0
  let main_v27 : IVec S1024x16384 32 := fn_argsort (F := F) main_v26
  let main_v28 : IVec S1024x32 32 := (extractStridedSlice S1024x32 ![0, 0] · slices_S1024x16384_S1024x32_0_0) main_v27
  let main_v29 : FVec F S1024x32 .f32 := fn_take_along_axis (F := F) main_arg0 main_v28
  let main_v30 : FVec F S1024x1 .f32 := broadcastInDim S1024x1 ![0] bcast_S1024_S1024x1_0 main_v25
  let main_v31 : FVec F S1024x32 .f32 := broadcastInDim S1024x32 ![0, 1] bcast_S1024x1_S1024x32_0_1 main_v30
  let main_v32 : IVec S1024x32 1 := cmpf .ogt main_v29 main_v31
  main_v32

def fn {F : FTy → Type} [FloatOps F] (main_arg0 : FVec F S1024x16384 .f32) : IVec S1024x32 1 :=
  let main_v0 : FVec F S1024x2x16x512 .f32 := shapeCast S1024x2x16x512 main_arg0 shapeCasts_S1024x16384_S1024x2x16x512
  let main_v1 : FVec F S1024x2x16x512 .f32 := fn_sort (F := F) main_v0
  let main_v2 : FVec F S1024x2x1x512 .f32 := (extractStridedSlice S1024x2x1x512 ![0, 0, 15, 0] · slices_S1024x2x16x512_S1024x2x1x512_0_0_15_0) main_v1
  let main_v3 : FVec F S1024x2x512 .f32 := shapeCast S1024x2x512 main_v2 shapeCasts_S1024x2x1x512_S1024x2x512
  let main_v4 : FVec F S1024x2x1x512 .f32 := (extractStridedSlice S1024x2x1x512 ![0, 0, 14, 0] · slices_S1024x2x16x512_S1024x2x1x512_0_0_14_0) main_v1
  let main_v5 : FVec F S1024x2x512 .f32 := shapeCast S1024x2x512 main_v4 shapeCasts_S1024x2x1x512_S1024x2x512
  let main_v6 : FVec F S1024x2x1x512 .f32 := (extractStridedSlice S1024x2x1x512 ![0, 0, 13, 0] · slices_S1024x2x16x512_S1024x2x1x512_0_0_13_0) main_v1
  let main_v7 : FVec F S1024x2x512 .f32 := shapeCast S1024x2x512 main_v6 shapeCasts_S1024x2x1x512_S1024x2x512
  let main_v8 : FVec F S1024x2x512 .f32 := fn_roll_static (F := F) main_v5
  let main_v9 : FVec F S1024x2x1024 .f32 := (fun a b => concatenate S1024x2x1024 2 [⟨S1024x2x512, a⟩, ⟨S1024x2x512, b⟩] concatenates_S1024x2x512_S1024x2x512_S1024x2x1024_d2) main_v3 main_v8
  let main_v10 : FVec F S1024x2x8x128 .f32 := shapeCast S1024x2x8x128 main_v9 shapeCasts_S1024x2x1024_S1024x2x8x128
  let main_v11 : FVec F S1024x2x8x128 .f32 := fn_sort_0 (F := F) main_v10
  let main_v12 : FVec F S1024x2x8192 .f32 := shapeCast S1024x2x8192 main_arg0 shapeCasts_S1024x16384_S1024x2x8192
  let main_v13 : FVec F S1024x2x8192 .f32 := fn_sort_1 (F := F) main_v12
  let main_v14 : FVec F S1024x2x8191 .f32 := (extractStridedSlice S1024x2x8191 ![0, 0, 0] · slices_S1024x2x8192_S1024x2x8191_0_0_0) main_v13
  let main_v15 : FVec F S1024x2x8191 .f32 := (extractStridedSlice S1024x2x8191 ![0, 0, 1] · slices_S1024x2x8192_S1024x2x8191_0_0_1) main_v13
  let main_v16 : IVec S1024x2x8191 1 := cmpf .oeq main_v14 main_v15
  let main_v17 : FVec F S1024x2x8191 .f32 := (extractStridedSlice S1024x2x8191 ![0, 0, 1] · slices_S1024x2x8192_S1024x2x8191_0_0_1) main_v13
  let main_cst : FVec F S_ .f32 := constant S_ .f32 0xFF800000#32
  let main_v18 : FVec F S1024x2x8191 .f32 := fn_where (F := F) main_v16 main_v17 main_cst
  let main_cst_0 : FVec F S_ .f32 := constant S_ .f32 0xFF800000#32
  let main_v19 : FVec F S1024 .f32 := (fun x v => Host.reduce FloatOps.maximumf x v reducesTo_S1024x2x512_S1024_d1_2 h_S_) main_v7 main_cst_0
  let main_v20 : FVec F S1024x2x1x128 .f32 := (extractStridedSlice S1024x2x1x128 ![0, 0, 5, 0] · slices_S1024x2x8x128_S1024x2x1x128_0_0_5_0) main_v11
  let main_v21 : FVec F S1024x2x128 .f32 := shapeCast S1024x2x128 main_v20 shapeCasts_S1024x2x1x128_S1024x2x128
  fn_part1 (F := F) main_arg0 main_v18 main_v19 main_v21
-- ==== Kernel.lean ====
abbrev S1024x8192 : Shape := ⟨2, ![1024, 8192]⟩
abbrev S1024x32 : Shape := ⟨2, ![1024, 32]⟩
abbrev S512x8192 : Shape := ⟨2, ![512, 8192]⟩
abbrev S512x32 : Shape := ⟨2, ![512, 32]⟩
abbrev S4 : Shape := ⟨1, ![4]⟩
abbrev S3x2 : Shape := ⟨2, ![3, 2]⟩
abbrev S1 : Shape := ⟨1, ![1]⟩
abbrev S_ : Shape := ⟨0, ![]⟩
abbrev S128x8192 : Shape := ⟨2, ![128, 8192]⟩
abbrev S128x512 : Shape := ⟨2, ![128, 512]⟩
abbrev S128x64 : Shape := ⟨2, ![128, 64]⟩
abbrev S128x448 : Shape := ⟨2, ![128, 448]⟩
abbrev S128x1024 : Shape := ⟨2, ![128, 1024]⟩
abbrev S128x128 : Shape := ⟨2, ![128, 128]⟩
abbrev S128x256 : Shape := ⟨2, ![128, 256]⟩
abbrev S256x256 : Shape := ⟨2, ![256, 256]⟩
abbrev S256 : Shape := ⟨1, ![256]⟩
abbrev S256x1 : Shape := ⟨2, ![256, 1]⟩
abbrev S256x32 : Shape := ⟨2, ![256, 32]⟩
abbrev S1x1 : Shape := ⟨2, ![1, 1]⟩
abbrev S1x32 : Shape := ⟨2, ![1, 32]⟩
abbrev S512x16 : Shape := ⟨2, ![512, 16]⟩
abbrev S512x24 : Shape := ⟨2, ![512, 24]⟩
abbrev S512x8 : Shape := ⟨2, ![512, 8]⟩
abbrev S512x28 : Shape := ⟨2, ![512, 28]⟩
abbrev S512x4 : Shape := ⟨2, ![512, 4]⟩
abbrev S512x30 : Shape := ⟨2, ![512, 30]⟩
abbrev S512x2 : Shape := ⟨2, ![512, 2]⟩
abbrev S512x31 : Shape := ⟨2, ![512, 31]⟩
abbrev S512x1 : Shape := ⟨2, ![512, 1]⟩

abbrev nBuf : Space → Nat
  | .hbm => 2
  | .vmem => 6
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S1024x32, .f32⟩
  | .local _ .vmem, ⟨1, _⟩ => ⟨S512x8192, .f32⟩
  | .local _ .vmem, ⟨2, _⟩ => ⟨S512x32, .f32⟩
  | .local _ .vmem, ⟨3, _⟩ => ⟨S512x32, .f32⟩
  | .local _ .vmem, ⟨4, _⟩ => ⟨S512x32, .f32⟩
  | .local _ .vmem, ⟨5, _⟩ => ⟨S512x32, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v10 : BitVec 32 := Scalar.muli v2 c512_i32
  let v11 : BitVec 32 := Scalar.addi v10 c0_i32
  let c0_i32_9 : BitVec 32 := 0#32
  ![v11.toNat, 0]
def k0_dev1 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v32 : BitVec 32 := Scalar.muli v2 c2_i32_22
  let v33 : BitVec 32 := Scalar.addi c0_i32_23 v32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v34 : BitVec 32 := Scalar.muli v6 c1_i32_24
  let v35 : BitVec 32 := Scalar.addi v33 v34
  v35.toNat
def k0_dev2 (d0 : Dev nD) : Nat :=
  let c0_i32_27 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_26 : BitVec 32 := 2#32
  let v36 : BitVec 32 := Scalar.muli v7 c2_i32_26
  let v37 : BitVec 32 := Scalar.addi c0_i32_27 v36
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v38 : BitVec 32 := Scalar.muli v5 c1_i32_28
  let v39 : BitVec 32 := Scalar.addi v37 v38
  v39.toNat
def k0_dev3 (d0 : Dev nD) : Nat :=
  let c0_i32_31 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_30 : BitVec 32 := 2#32
  let v40 : BitVec 32 := Scalar.muli v8 c2_i32_30
  let v41 : BitVec 32 := Scalar.addi c0_i32_31 v40
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_32 : BitVec 32 := 1#32
  let v42 : BitVec 32 := Scalar.muli v9 c1_i32_32
  let v43 : BitVec 32 := Scalar.addi v41 v42
  v43.toNat
def k0_dev4 (d0 : Dev nD) : Nat :=
  let c0_i32_161 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_160 : BitVec 32 := 2#32
  let v537 : BitVec 32 := Scalar.muli v8 c2_i32_160
  let v538 : BitVec 32 := Scalar.addi c0_i32_161 v537
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_162 : BitVec 32 := 1#32
  let v539 : BitVec 32 := Scalar.muli v9 c1_i32_162
  let v540 : BitVec 32 := Scalar.addi v538 v539
  v540.toNat
def k0_dev5 (d0 : Dev nD) : Nat :=
  let c0_i32_172 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_171 : BitVec 32 := 2#32
  let v547 : BitVec 32 := Scalar.muli v2 c2_i32_171
  let v548 : BitVec 32 := Scalar.addi c0_i32_172 v547
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_173 : BitVec 32 := 1#32
  let v549 : BitVec 32 := Scalar.muli v6 c1_i32_173
  let v550 : BitVec 32 := Scalar.addi v548 v549
  v550.toNat
def k0_dev6 (d0 : Dev nD) : Nat :=
  let c0_i32_183 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_182 : BitVec 32 := 2#32
  let v557 : BitVec 32 := Scalar.muli v7 c2_i32_182
  let v558 : BitVec 32 := Scalar.addi c0_i32_183 v557
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_184 : BitVec 32 := 1#32
  let v559 : BitVec 32 := Scalar.muli v5 c1_i32_184
  let v560 : BitVec 32 := Scalar.addi v558 v559
  v560.toNat
def k0_dev7 (d0 : Dev nD) : Nat :=
  let c0_i32_317 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_316 : BitVec 32 := 2#32
  let v1060 : BitVec 32 := Scalar.muli v8 c2_i32_316
  let v1061 : BitVec 32 := Scalar.addi c0_i32_317 v1060
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_318 : BitVec 32 := 1#32
  let v1062 : BitVec 32 := Scalar.muli v9 c1_i32_318
  let v1063 : BitVec 32 := Scalar.addi v1061 v1062
  v1063.toNat
def k0_dev8 (d0 : Dev nD) : Nat :=
  let c0_i32_328 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_327 : BitVec 32 := 2#32
  let v1070 : BitVec 32 := Scalar.muli v2 c2_i32_327
  let v1071 : BitVec 32 := Scalar.addi c0_i32_328 v1070
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_329 : BitVec 32 := 1#32
  let v1072 : BitVec 32 := Scalar.muli v6 c1_i32_329
  let v1073 : BitVec 32 := Scalar.addi v1071 v1072
  v1073.toNat
def k0_dev9 (d0 : Dev nD) : Nat :=
  let c0_i32_339 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_338 : BitVec 32 := 2#32
  let v1080 : BitVec 32 := Scalar.muli v7 c2_i32_338
  let v1081 : BitVec 32 := Scalar.addi c0_i32_339 v1080
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_340 : BitVec 32 := 1#32
  let v1082 : BitVec 32 := Scalar.muli v5 c1_i32_340
  let v1083 : BitVec 32 := Scalar.addi v1081 v1082
  v1083.toNat
def k0_off2 (d0 : Dev nD) (c0_i32_477 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v10 : BitVec 32 := Scalar.muli v2 c512_i32
  let v1423 : BitVec 32 := Scalar.addi v10 c0_i32_477
  let v1424 : Index := Scalar.indexCast v1423
  let c0_478 : Index := 0#32
  ![v1424.toNat, 0]
def k0_off3 (d0 : Dev nD) (c0_i32_481 : BitVec 32) : Fin 2 → Nat :=
  let c1_i32_479 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1427 : BitVec 32 := Scalar.subi c1_i32_479 v2
  let c512_i32_480 : BitVec 32 := 512#32
  let v1428 : BitVec 32 := Scalar.muli v1427 c512_i32_480
  let v1429 : BitVec 32 := Scalar.addi v1428 c0_i32_481
  let v1430 : Index := Scalar.indexCast v1429
  let c0_482 : Index := 0#32
  ![v1430.toNat, 0]
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S1024x16384, .i32⟩
  | .hbm, ⟨3, _⟩ => ⟨S1024x16384, .f32⟩
  | .hbm, ⟨4, _⟩ => ⟨S1024x16384, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Values.lean ====
/- The values the kernel computes, as functions of the vectors it loads: the candidates of a row
   block, the thirty-two greatest distinct values of every row, and the merge of two such lists. -/
module

public import proofs.«01_k».proof.Proof.Gen.KernelIdeal

@[expose] public section

noncomputable section

namespace Cert.TopK

open Idealize.ShloMosaic Idealize.SL.Sem Cert.KernelIdeal

variable {F : FTy → Type} [FloatOps F]

/-- The vector that holds the reduction's neutral element (the word of -∞) everywhere. -/
def floor (s : Shape) : FVec F s .f32 := broadcast s (Scalar.ofBits .f32 0xFF800000#32)

/-- `v` with the elements that equal `m`'s put to -∞. -/
def erase {s : Shape} (m v : FVec F s .f32) : FVec F s .f32 := select (cmpf .oeq v m) (floor s) v

/-- The elementwise maximum of `c` and of the vectors of `cs`, folded from the left. -/
def maxes {s : Shape} (c : FVec F s .f32) (cs : List (FVec F s .f32)) : FVec F s .f32 :=
  cs.foldl maximumf c

/-- The elementwise maximum, `m` put to -∞ first. -/
def nexts {s : Shape} (m c : FVec F s .f32) (cs : List (FVec F s .f32)) : FVec F s .f32 :=
  maxes (erase m c) (cs.map (erase m))

/-- Two pieces put together along the axis `a`. -/
def pair (t : Shape) (a : Fin t.rank) {s₁ s₂ : Shape} (x : FVec F s₁ .f32) (y : FVec F s₂ .f32)
    (h : Shape.Concatenates [s₁, s₂] t a := by decide) : FVec F t .f32 :=
  concatenate t a [⟨s₁, x⟩, ⟨s₂, y⟩] h

/-- The `k`-th run of 512 columns of a block of 128 rows. -/
def run (v : FVec F S128x8192 .f32) (k : Nat) (h : S128x8192.Slices ![0, 512 * k] S128x512 := by decide) :
    FVec F S128x512 .f32 := extractStridedSlice S128x512 ![0, 512 * k] v h

/-- The runs after the first. -/
def runs (v : FVec F S128x8192 .f32) : List (FVec F S128x512 .f32) :=
  [run v 1, run v 2, run v 3, run v 4, run v 5, run v 6, run v 7, run v 8, run v 9, run v 10,
    run v 11, run v 12, run v 13, run v 14, run v 15]

/-- Per lane the greatest of the sixteen runs. -/
def first (v : FVec F S128x8192 .f32) : FVec F S128x512 .f32 := maxes (run v 0) (runs v)

/-- Per lane the greatest value below the first. -/
def second (v : FVec F S128x8192 .f32) : FVec F S128x512 .f32 := nexts (first v) (run v 0) (runs v)

/-- A vector of 512 lanes turned by 64. -/
def turned (m : FVec F S128x512 .f32) : FVec F S128x512 .f32 :=
  pair S128x512 1 (extractStridedSlice S128x64 ![0, 448] m) (extractStridedSlice S128x448 ![0, 0] m)

/-- The 1024 values the second level takes: the lanes' firsts, and their seconds turned. -/
def lanes (v : FVec F S128x8192 .f32) : FVec F S128x1024 .f32 :=
  pair S128x1024 1 (first v) (turned (second v))

/-- The `k`-th run of 128 lanes. -/
def group (c : FVec F S128x1024 .f32) (k : Nat) (h : S128x1024.Slices ![0, 128 * k] S128x128 := by decide) :
    FVec F S128x128 .f32 := extractStridedSlice S128x128 ![0, 128 * k] c h

/-- The groups after the first. -/
def groups (c : FVec F S128x1024 .f32) : List (FVec F S128x128 .f32) :=
  [group c 1, group c 2, group c 3, group c 4, group c 5, group c 6, group c 7]

/-- Per bucket the greatest of the eight groups. -/
def top (c : FVec F S128x1024 .f32) : FVec F S128x128 .f32 := maxes (group c 0) (groups c)

/-- The 256 candidates of every row: the buckets' two greatest values. -/
def bests (c : FVec F S128x1024 .f32) : FVec F S128x256 .f32 :=
  pair S128x256 1 (top c) (nexts (top c) (group c 0) (groups c))

/-- The candidates of two row blocks, one under the other. -/
def candidates (v w : FVec F S128x8192 .f32) : FVec F S256x256 .f32 :=
  pair S256x256 0 (bests (lanes v)) (bests (lanes w))

/-- Every row's greatest value, as a column. -/
def peak (v : FVec F S256x256 .f32) : FVec F S256x1 .f32 :=
  shapeCast S256x1 (multiReduction .maximumf [1] S256 v 0xFF800000#32 (by decide) (.inl rfl) rfl)

/-- `v` with every row's greatest value put to -∞. -/
def rest (v : FVec F S256x256 .f32) : FVec F S256x256 .f32 := erase (broadcastTo S256x256 (peak v)) v

/-- The columns of peaks, `n` of them, each of what the one before leaves. -/
def peaks : Nat → FVec F S256x256 .f32 → List ((s : Shape) × FVec F s .f32)
  | 0, _ => []
  | n + 1, v => ⟨S256x1, peak v⟩ :: peaks n (rest v)

theorem peaks_shapes (n : Nat) (v : FVec F S256x256 .f32) :
    (peaks n v).map (·.1) = List.replicate n S256x1 := by
  induction n generalizing v with
  | zero => rfl
  | succ n ih => simp only [peaks, List.map_cons, ih, List.replicate_succ]

/-- The thirty-two greatest distinct values of every row, from the greatest down. -/
def greatest (v : FVec F S256x256 .f32) : FVec F S256x32 .f32 :=
  concatenate S256x32 1 (peaks 32 v) (by rw [peaks_shapes]; decide)

/-- Whether a lane is in the lower half of its block of `n` lanes. -/
def low (n j : BitVec 32) : IVec S512x32 1 :=
  have i : IVec S1x32 32 := iota .tc S1x32 32 [1]
  have z : BitVec 32 := Scalar.select (Scalar.cmpi .eq n 0#32) 1#32 n
  have r : IVec S1x32 32 := remsi i (broadcast S1x32 z)
  have b : IVec S1x32 1 := andi (xori (cmpi .slt r (broadcast S1x32 0#32))
    (broadcastTo S1x32 (broadcast S1x32 (Scalar.cmpi .slt z 0#32)))) (cmpi .ne r (broadcast S1x32 0#32))
  have q : IVec S1x32 32 := select b (addi r (broadcast S1x32 z)) r
  broadcastTo S512x32 (shapeCast S1x32 (cmpi .slt q (broadcast S1x32 j)))

/-- The lanes turned so that lane `k` reads the first columns of two pieces cut at column `o`. -/
def turn (a b : Shape) (o : Nat) (v : FVec F S512x32 .f32)
    (h₁ : S512x32.Slices ![0, o] a := by decide) (h₂ : S512x32.Slices ![0, 0] b := by decide)
    (h : Shape.Concatenates [a, b] S512x32 1 := by decide) : FVec F S512x32 .f32 :=
  pair S512x32 1 (extractStridedSlice a ![0, o] v h₁) (extractStridedSlice b ![0, 0] v h₂) h

/-- Lane `k` takes the value of the lane whose index differs from `k`'s in one bit. -/
def swap (m : IVec S512x32 1) (up dn : FVec F S512x32 .f32) : FVec F S512x32 .f32 := select m up dn

/-- The lanes of `v` in reverse order, by five exchanges. -/
def reversed (v : FVec F S512x32 .f32) : FVec F S512x32 .f32 :=
  have a := swap (low 32#32 16#32) (turn S512x16 S512x16 16 v) (turn S512x16 S512x16 16 v)
  have b := swap (low 16#32 8#32) (turn S512x24 S512x8 8 a) (turn S512x8 S512x24 24 a)
  have c := swap (low 8#32 4#32) (turn S512x28 S512x4 4 b) (turn S512x4 S512x28 28 b)
  have d := swap (low 4#32 2#32) (turn S512x30 S512x2 2 c) (turn S512x2 S512x30 30 c)
  swap (low 2#32 1#32) (turn S512x31 S512x1 1 d) (turn S512x1 S512x31 31 d)

/-- One stage of the merge: of two lanes the lower one keeps the greater value. -/
def stage (m : IVec S512x32 1) (up dn v : FVec F S512x32 .f32) : FVec F S512x32 .f32 :=
  select m (maximumf v up) (minimumf v dn)

/-- The thirty-two greatest of two descending lists, descending. -/
def merge (x y : FVec F S512x32 .f32) : FVec F S512x32 .f32 :=
  have v := maximumf x (reversed y)
  have a := stage (low 32#32 16#32) (turn S512x16 S512x16 16 v) (turn S512x16 S512x16 16 v) v
  have b := stage (low 16#32 8#32) (turn S512x24 S512x8 8 a) (turn S512x8 S512x24 24 a) a
  have c := stage (low 8#32 4#32) (turn S512x28 S512x4 4 b) (turn S512x4 S512x28 28 b) b
  have d := stage (low 4#32 2#32) (turn S512x30 S512x2 2 c) (turn S512x2 S512x30 30 c) c
  stage (low 2#32 1#32) (turn S512x31 S512x1 1 d) (turn S512x1 S512x31 31 d) d

/-- Two lists of 256 rows, one under the other. -/
def under (x y : FVec F S256x32 .f32) : FVec F S512x32 .f32 :=
  pair S512x32 0 x y

/-- What a device makes of its own list `a` and of the lists that arrive (`y`, `x` and `d` in the
    buffers of the three peers), 512 rows. -/
def joined (a y x d : FVec F S256x32 .f32) : FVec F S512x32 .f32 := merge (under a x) (under y d)

/-- The rows of a joined list that the device's own row half holds. -/
def ownRows (m : FVec F S512x32 .f32) : FVec F S256x32 .f32 := extractStridedSlice S256x32 ![0, 0] m

/-- The rows of a joined list that the other row half holds. -/
def otherRows (m : FVec F S512x32 .f32) : FVec F S256x32 .f32 := extractStridedSlice S256x32 ![256, 0] m

end Cert.TopK
-- ==== Proof.Flat.lean ====
/- The kernel body as one straight program: its copies, signals, waits, loads and stores in order,
   over the values of `Values`. -/
module

public import proofs.«01_k».proof.Proof.Values
public import proofs.«01_k».proof.Proof.Gen.KernelIdeal.Skeleton
public import proofs.«01_k».proof.Proof.Gen.KernelIdeal.Points

@[expose] public section

noncomputable section

namespace Cert.TopK

open Idealize.ShloMosaic Idealize.ShloMosaic.TcCoe Idealize.SL Idealize.SL.Sem Cert.KernelIdeal Cert.KernelIdeal.Gen

variable {F : FTy → Type} [FloatOps F]

/-- A step of the kernel. -/
abbrev Step := Prog (TpuEff nD τ sig (Elt F) Λ₀ .tc)

/-- The buffer that receives the lists of the peer of kind `j`. -/
abbrev landing : Fin 3 → Memref sig .tc .vmem S512x32 .f32 :=
  ![Memref.whole cc0_scratch2, Memref.whole cc0_scratch3, Memref.whole cc0_scratch4]

theorem inHalf (s : Fin 2) : ∀ a, (![256 * s.val, 0] : Fin 2 → Nat) a + S256x32.size a ≤ S512x32.size a := by
  revert s; decide

/-- The rows of half `s` of a buffer of lists, as a rectangle. -/
abbrev halfRect (s : Fin 2) : Rect S512x32 := Rect.unit (s := S512x32) ![256 * s.val, 0] S256x32.size (inHalf s)

/-- The rows of half `s` of a buffer of lists. -/
abbrev half (b : Memref sig .tc .vmem S512x32 .f32) (s : Fin 2) : Memref sig .tc .vmem S256x32 .f32 :=
  b.slice (halfRect s) (fun _ => rfl)

/-- The semaphore at `(j, s)` of an array of three times two. -/
theorem inPair (j : Fin 3) (s : Fin 2) : ∀ a, (![j.val, s.val] : Fin 2 → Nat) a + S1x1.size a ≤ S3x2.size a := by
  revert j s; decide

abbrev semAt (b : DmaSems sig S3x2) (j : Fin 3) (s : Fin 2) : DmaSem sig :=
  ((b.slice (Rect.unit (s := S3x2) ![j.val, s.val] S1x1.size (inPair j s))).squeeze S_ squeezes_S1x1_S_).sem

theorem inFour (r : Fin 4) : ∀ a, (![r.val] : Fin 1 → Nat) a + S1.size a ≤ S4.size a := by revert r; decide

/-- The semaphore of the copy of row block `r`. -/
abbrev copySem (r : Fin 4) : DmaSem sig :=
  ((cc0_scratch5.slice (Rect.unit (s := S4) ![r.val] S1.size (inFour r))).squeeze S_ squeezes_S1_S_).sem

theorem inRows (r : Fin 4) : ∀ a, (![128 * r.val, 0] : Fin 2 → Nat) a + S128x8192.size a ≤ S512x8192.size a := by
  revert r; decide

/-- Row block `r` of the local copy. -/
abbrev rowsRect (r : Fin 4) : Rect S512x8192 := Rect.unit (s := S512x8192) ![128 * r.val, 0] S128x8192.size (inRows r)

abbrev rows (r : Fin 4) : Memref sig .tc .vmem S128x8192 .f32 :=
  (Memref.whole cc0_scratch0).slice (rowsRect r) (fun _ => rfl)

/-- Row block `r` of the device's own row half of its argument. -/
abbrev source (c : Dev nD) (r : Fin 4) : Memref sig .tc .hbm S128x8192 .f32 :=
  (Memref.whole main_arg0).slice
    (Rect.unit (s := S1024x8192) (k0_off1 c (BitVec.ofNat 32 (128 * r.val))) S128x8192.size (k0_off1_inb c r)) (fun _ => rfl)

/-- Start the copy of row block `r`. -/
def fetch (c : Dev nD) (r : Fin 4) : Step (F := F) PUnit :=
  Prog.lift (.enqueueDma (source c r) (.here (rows r)) (.dma (copySem r)) (View.wordExact_bits rfl) (View.wordExact_bits rfl) ⟨Or.inl rfl, trivial⟩)

/-- Wait for the copy of row block `r` and read it. -/
def take (c : Dev nD) (r : Fin 4) : Step (F := F) (Vec F S128x8192 .f32) := do
  Prog.lift (.waitDma2 (copySem r) (source c r) (rows r) (View.wordExact_bits rfl) (View.wordExact_bits rfl))
  Prog.lift (.load (Memref.whole cc0_scratch0) (rowsRect r).toLoadRect (View.loadsAt_vmem h_S128x8192))

/-- Read half `s` of a buffer of lists. -/
def readHalf (b : Memref sig .tc .vmem S512x32 .f32) (s : Fin 2) : Step (F := F) (Vec F S256x32 .f32) :=
  Prog.lift (.load b (halfRect s).toLoadRect (View.loadsAt_vmem h_S256x32))

/-- Write `v` to half `s` of the device's own buffer of lists. -/
def keep (s : Fin 2) (v : FVec F S256x32 .f32) : Step (F := F) PUnit := do
  let _ ← readHalf (Memref.whole cc0_scratch1) s
  Prog.lift (.store (Memref.whole cc0_scratch1) (halfRect s) (shapeCast S256x32 v (by decide)) Finset.univ
    (View.stores_vmem_bits_univ h_S256x32 rfl) (.inl rfl))

/-- Send half `s` of the device's own lists to the peer of kind `j`. -/
def send (dst : Dev nD) (j : Fin 3) (s : Fin 2) : Step (F := F) PUnit :=
  Prog.lift (.enqueueDma (half (Memref.whole cc0_scratch1) s) (.remote (Dev.tc dst) (half (landing j) s) (.dma (semAt cc0_scratch6 j s)))
    (.dma (semAt cc0_scratch7 j s)) (View.wordExact_bits rfl) (View.wordExact_bits rfl)
    ⟨⟨rfl, Or.inl rfl⟩, trivial⟩)

/-- Wait until the send of half `s` to the peer of kind `j` has left, and for the peer's. -/
def settle (j : Fin 3) (s : Fin 2) : Step (F := F) PUnit := do
  Prog.lift (.waitDma2 (semAt cc0_scratch6 j s) (half (landing j) s) (half (Memref.whole cc0_scratch1) s)
    (View.wordExact_bits rfl) (View.wordExact_bits rfl))
  Prog.lift (.waitDma2 (semAt cc0_scratch7 j s) (half (Memref.whole cc0_scratch1) s) (half (landing j) s)
    (View.wordExact_bits rfl) (View.wordExact_bits rfl))

/-- The rows of the result that the device's own row half holds, part `s`. -/
abbrev ownRect (c : Dev nD) (s : Fin 2) : Rect S1024x32 :=
  Rect.unit (s := S1024x32) (k0_off2 c (BitVec.ofNat 32 (256 * s.val))) S256x32.size (k0_off2_inb c s)

/-- The rows of the result that the other row half holds, part `s`. -/
abbrev otherRect (c : Dev nD) (s : Fin 2) : Rect S1024x32 :=
  Rect.unit (s := S1024x32) (k0_off3 c (BitVec.ofNat 32 (256 * s.val))) S256x32.size (k0_off3_inb c s)

/-- Write the 256 rows of the result from `o` on. -/
def put (out : Memref sig .tc .vmem S1024x32 .f32) (o : Fin 2 → Nat)
    (h : ∀ a, o a + S256x32.size a ≤ S1024x32.size a) (v : FVec F S256x32 .f32) : Step (F := F) PUnit := do
  let _ : Vec F S256x32 .f32 ← Prog.lift (.load out (Rect.unit (s := S1024x32) o S256x32.size h).toLoadRect
    (View.loadsAt_vmem h_S256x32))
  Prog.lift (.store out (Rect.unit (s := S1024x32) o S256x32.size h) v Finset.univ
    (View.stores_vmem_bits_univ h_S256x32 rfl) (.inl rfl))

/-- Wait for the peers' lists of half `s`, join them with the device's own `a`, write the result. -/
def finish (out : Memref sig .tc .vmem S1024x32 .f32) (c : Dev nD) (s : Fin 2) (a : FVec F S256x32 .f32) :
    Step (F := F) PUnit := do
  settle 2 s
  settle 0 s
  settle 1 s
  let x ← readHalf (landing 1) s
  let y ← readHalf (landing 0) s
  let d ← readHalf (landing 2) s
  put out _ (k0_off2_inb c s) (ownRows (joined a y x d))
  put out _ (k0_off3_inb c s) (otherRows (joined a y x d))

/-- The barrier semaphore. -/
abbrev barrier : Sem sig := (SemArray.scalar (sig.barrier 0 rfl) : Sems sig S_).sem

/-- The kernel body of device `c`. -/
def flat (out : Memref sig .tc .vmem S1024x32 .f32) (c : Dev nD) : Step (F := F) PUnit := do
  fetch c 0
  fetch c 1
  fetch c 2
  fetch c 3
  semSignalWord (⟨k0_dev1 c, k0_dev1_lt c⟩ : Dev nD) barrier 1#32
  semSignalWord (⟨k0_dev2 c, k0_dev2_lt c⟩ : Dev nD) barrier 1#32
  semSignalWord (⟨k0_dev3 c, k0_dev3_lt c⟩ : Dev nD) barrier 1#32
  semWaitWord barrier 3#32
  let v₀ ← take c 0
  let v₁ ← take c 1
  keep 0 (greatest (candidates v₀ v₁))
  send ⟨k0_dev4 c, k0_dev4_lt c⟩ 2 0
  send ⟨k0_dev5 c, k0_dev5_lt c⟩ 0 0
  send ⟨k0_dev6 c, k0_dev6_lt c⟩ 1 0
  let v₂ ← take c 2
  let v₃ ← take c 3
  keep 1 (greatest (candidates v₂ v₃))
  send ⟨k0_dev7 c, k0_dev7_lt c⟩ 2 1
  send ⟨k0_dev8 c, k0_dev8_lt c⟩ 0 1
  send ⟨k0_dev9 c, k0_dev9_lt c⟩ 1 1
  finish out c 0 (greatest (candidates v₀ v₁))
  finish out c 1 (greatest (candidates v₂ v₃))

set_option maxRecDepth 65536 in
theorem body_eq (t : Fin cfg0.N) : bodyAt0 (F := F) t = Prog.lift .deviceId >>= flat (st0_0 t) := rfl

end Cert.TopK
-- ==== Proof.Protocol.lean ====
/- The protocol of the run: every semaphore the kernel names is a cell with one round, in which a peer's
   signal hands over the buffer to be filled, a local copy fills a block of rows, and a remote copy fills
   half of a peer's buffer. -/
module

public import proofs.«01_k».proof.Proof.Flat
public import proofs.«01_k».proof.Proof.Gen.KernelIdeal.Launch
public import Idealize.ShloMosaic.Lib.MemrefSat
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.TopK

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Peers and cells -/

/-- The peer of kind `j`: `0` across y, `1` across x, `2` across both. -/
def peer (j : Fin 3) (c : Dev nD) : Dev nD := ⟨(c.val ^^^ (j.val + 1)) % nD, Nat.mod_lt _ (by decide)⟩

theorem peer_peer (j : Fin 3) (c : Dev nD) : peer j (peer j c) = c := by revert j c; decide

/-- The semaphores the kernel names: the barrier, one per row block's copy, and per peer and half one
    for what is sent and one for what comes. -/
inductive Slot
  | bar
  | copy (r : Fin 4)
  | sent (j : Fin 3) (s : Fin 2)
  | came (j : Fin 3) (s : Fin 2)
  deriving DecidableEq

/-- All of them. -/
def slots : List Slot :=
  [.bar, .copy 0, .copy 1, .copy 2, .copy 3, .sent 0 0, .sent 0 1, .sent 1 0, .sent 1 1, .sent 2 0, .sent 2 1,
    .came 0 0, .came 0 1, .came 1 0, .came 1 1, .came 2 0, .came 2 1]

instance : Fintype Slot := ⟨⟨slots, by decide⟩, fun k => by
  cases k with
  | bar => decide
  | copy r => revert r; decide
  | sent j s => revert j s; decide
  | came j s => revert j s; decide⟩

/-- Their places. -/
abbrev csem : Slot → SemLoc sig
  | .bar => .reg barrier
  | .copy r => .dma (copySem r)
  | .sent j s => .dma (semAt cc0_scratch6 j s)
  | .came j s => .dma (semAt cc0_scratch7 j s)

theorem copySem_val (r : Fin 4) : (copySem r).val = 1 + r.val := by revert r; decide
theorem sent_val (j : Fin 3) (s : Fin 2) : (semAt cc0_scratch6 j s).val = 5 + (2 * j.val + s.val) := by revert j s; decide
theorem came_val (j : Fin 3) (s : Fin 2) : (semAt cc0_scratch7 j s).val = 11 + (2 * j.val + s.val) := by revert j s; decide

/-- The number of a semaphore, the barrier's `0`. -/
def place : SemLoc sig → ℕ
  | .reg _ => 0
  | .dma q => q.val

/-- The number of a cell. -/
def number : Slot → ℕ
  | .bar => 0
  | .copy r => 1 + r.val
  | .sent j s => 5 + (2 * j.val + s.val)
  | .came j s => 11 + (2 * j.val + s.val)

theorem number_inj : Function.Injective number := by
  have h : ∀ k k' : Slot, number k = number k' → k = k' := by decide
  exact fun k k' => h k k'

theorem place_csem (k : Slot) : place (csem k) = number k := by
  cases k with
  | bar => rfl
  | copy r => exact copySem_val r
  | sent j s => exact sent_val j s
  | came j s => exact came_val j s

theorem csem_inj : Function.Injective csem := fun k k' h =>
  number_inj ((place_csem k).symm.trans ((congrArg place h).trans (place_csem k')))

/-- The cell `k` of device `c`. -/
abbrev kcell (c : Dev nD) (k : Slot) : GSem nD τ sig := ((c : Thread nD τ), csem k)

theorem kcell_inj {c c' : Dev nD} {k k' : Slot} (h : kcell c k = kcell c' k') : c = c' ∧ k = k' :=
  ⟨congrArg (fun g : GSem nD τ sig => g.1.1) h, csem_inj (congrArg Prod.snd h)⟩

/-- Which of them a semaphore is, if any. -/
def slotOf (g : GSem nD τ sig) : Option Slot :=
  open Classical in if g.1.2 = .tc then Function.partialInv csem g.2 else none

theorem slotOf_kcell (c : Dev nD) (k : Slot) : slotOf (kcell c k) = some k := by
  unfold slotOf; rw [if_pos rfl]; exact Function.partialInv_left csem_inj k

/-! ## The schedule -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-- What a copy into `v` is worth. -/
def credit {s : Shape} (v : View sig .tc .vmem s .f32) : ℕ := v.dmaCredit

theorem credit_pos {s : Shape} (v : View sig .tc .vmem s .f32) (h : ∀ a, 0 < s.size a) : 0 < credit v :=
  v.dmaCredit_pos (Shape.numel_pos h)

theorem credit_eq {s : Shape} (v : View sig .tc .vmem s .f32) : v.dmaCredit = credit v := rfl

/-- What the copy of a row block is worth, and what that of a half is. -/
def copyAmt (r : Fin 4) : ℕ := credit (s := S128x8192) (rows r).view
def halfAmt (j : Fin 3) (s : Fin 2) : ℕ := credit (s := S256x32) (half (landing j) s).view

theorem copyAmt_pos (r : Fin 4) : 0 < copyAmt r := credit_pos (s := S128x8192) (rows r).view (by decide)
theorem halfAmt_pos (j : Fin 3) (s : Fin 2) : 0 < halfAmt j s := credit_pos (s := S256x32) (half (landing j) s).view (by decide)

/-- What one duty of a cell is worth. -/
def amt : Slot → ℕ
  | .bar => 1
  | .copy r => copyAmt r
  | .sent j s => halfAmt j s
  | .came j s => halfAmt j s

theorem amt_pos (k : Slot) : 0 < amt k := by
  cases k with
  | bar => exact Nat.one_pos
  | copy r => exact copyAmt_pos r
  | sent j s => exact halfAmt_pos j s
  | came j s => exact halfAmt_pos j s

/-- The duties of a cell. -/
def duty : Slot → Finset (Fin 3)
  | .bar => Finset.univ
  | _ => {0}

variable (m : (ℓ : Loc nD τ sig) → Buf (Elt F) ℓ) (ρ : Dev nD → PrngReg)

/-- Row block `r` of device `c`'s part of the argument. -/
def vrow (c : Dev nD) (r : Fin 4) : Vec F S128x8192 .f32 :=
  (source c r).view.read (Elt F) (m ((source c r).view.loc (c : Thread nD τ)))

/-- The blocks of half `s`. -/
def lower (s : Fin 2) : Fin 4 := ⟨2 * s.val, by omega⟩
def upper (s : Fin 2) : Fin 4 := ⟨2 * s.val + 1, by omega⟩

/-- The lists device `c` makes of its half `s`. -/
def lists (c : Dev nD) (s : Fin 2) : FVec F S256x32 .f32 := greatest (candidates (vrow m c (lower s)) (vrow m c (upper s)))

/-- Row block `r` of the argument, owned. -/
def srcPts (c : Dev nD) (r : Fin 4) : sProp 𝕄 :=
  (source c r).view.loc (c : Thread nD τ) ↦[(source c r).view.set]{fullShare} m ((source c r).view.loc (c : Thread nD τ))

/-- The part of its own lists lent to the send to the peer of kind `j`. -/
abbrev part (j : Fin 3) : PosShare TreeShare := ![fullShare.left, fullShare.right.left, fullShare.right.right] j

/-- The buffer for the peer of kind `j`, to be filled. -/
def room (c : Dev nD) (j : Fin 3) (s : Fin 2) : sProp 𝕄 := iprop(∃ X, owns (c : Thread nD τ) (half (landing j) s) fullShare X)

/-- What a duty hands over. -/
def pay (c : Dev nD) : Slot → Fin 3 → sProp 𝕄
  | .bar, j => iprop(room (peer j c) j 0 ∗ room (peer j c) j 1)
  | .copy r, _ => iprop(owns (c : Thread nD τ) (rows r) fullShare (vrow m c r) ∗ srcPts m c r)
  | .sent j s, _ => owns (c : Thread nD τ) (half (Memref.whole cc0_scratch1) s) (part j) (lists m c s)
  | .came j s, _ => owns (c : Thread nD τ) (half (landing j) s) fullShare (lists m (peer j c) s)

instance pay_storable (c : Dev nD) (k : Slot) (d : Fin 3) : BI.Storable (upEmb : UEmb _ 𝕄) (pay m c k d) := by
  cases k <;> unfold pay <;> (try unfold room) <;> (try unfold srcPts) <;> infer_instance

/-- One round of every cell. -/
def plan : Rounds.Schedule (GSem nD τ sig) (Fin 3) 𝕄 where
  duties g r := if r = 0 then (slotOf g).elim ∅ duty else ∅
  unitless _ := False
  amount g _ _ := (slotOf g).elim 1 amt
  payload g _ d := (slotOf g).elim iprop(emp) fun k => pay m g.1.1 k d
  amount_pos g _ _ _ := by
    cases h : slotOf g with
    | none => exact Nat.one_pos
    | some k => exact amt_pos k

instance plan_storable (g : GSem nD τ sig) (r : ℕ) (d : Fin 3) :
    BI.Storable (upEmb : UEmb _ 𝕄) ((plan (F := F) m).payload g r d) := by
  show BI.Storable upEmb ((slotOf g).elim iprop(emp) fun k => pay m g.1.1 k d)
  cases slotOf g <;> dsimp only [Option.elim] <;> infer_instance

theorem duties_kcell (c : Dev nD) (k : Slot) : (plan (F := F) m).duties (kcell c k) 0 = duty k := by
  dsimp only [plan]; rw [if_pos rfl, slotOf_kcell]; rfl
theorem duties_later (g : GSem nD τ sig) : ∀ r, 1 ≤ r → (plan (F := F) m).duties g r = ∅ := fun r hr => by
  dsimp only [plan]; rw [if_neg (by omega)]
theorem amount_kcell (c : Dev nD) (k : Slot) (r : ℕ) (d : Fin 3) : (plan (F := F) m).amount (kcell c k) r d = amt k := by
  dsimp only [plan]; rw [slotOf_kcell]; rfl
theorem payload_kcell (c : Dev nD) (k : Slot) (r : ℕ) (d : Fin 3) :
    (plan (F := F) m).payload (kcell c k) r d = pay m c k d := by
  dsimp only [plan]; rw [slotOf_kcell]; rfl

theorem expect_kcell (c : Dev nD) (k : Slot) : (plan (F := F) m).expect (kcell c k) 0 = (duty k).card * amt k := by
  unfold Schedule.expect Schedule.amountOf
  rw [duties_kcell, Finset.sum_congr rfl fun d _ => amount_kcell m c k 0 d, Finset.sum_const, smul_eq_mul]

theorem expect_one (c : Dev nD) (k : Slot) (h : duty k = {0}) : (plan (F := F) m).expect (kcell c k) 0 = amt k := by
  rw [expect_kcell, h, Finset.card_singleton, Nat.one_mul]

/-- What the copies credit. -/
theorem credit_copy (r : Fin 4) : (rows r).view.dmaCredit = amt (.copy r) := credit_eq (s := S128x8192) (rows r).view
theorem credit_landing (j : Fin 3) (s : Fin 2) : (half (landing j) s).view.dmaCredit = amt (.came j s) :=
  credit_eq (s := S256x32) (half (landing j) s).view

/-- The rest of a round no duty of which is taken: the duties' payloads. -/
theorem rest_kcell (c : Dev nD) (k : Slot) :
    bigSep ((plan (F := F) m).duties (kcell c k) 0 \ ∅) (fun d => (plan (F := F) m).payload (kcell c k) 0 d)
      = bigSep (duty k) fun d => pay m c k d := by
  rw [Finset.sdiff_empty, duties_kcell]
  exact bigSep_congr fun d _ => payload_kcell m c k 0 d

/-! ## What a device owes, and the levels -/

/-- What is owed for the duties listed, each a peer and a cell of it. -/
def due (c : Dev nD) (l : List (Fin 3 × Slot)) : CellTallies nD τ sig Unit :=
  (l.map fun x => tallyAt (kcell (peer x.1 c) x.2) () (amt x.2)).sum

theorem due_cons (c : Dev nD) (x : Fin 3 × Slot) (l : List (Fin 3 × Slot)) :
    due c (x :: l) = due c l + tallyAt (kcell (peer x.1 c) x.2) () (amt x.2) := by
  unfold due; rw [List.map_cons, List.sum_cons, add_comm]

theorem due_pos {c : Dev nD} : ∀ {l : List (Fin 3 × Slot)} {g : GSem nD τ sig} {u : Unit}, 0 < due c l g u →
    ∃ x ∈ l, g = kcell (peer x.1 c) x.2
  | [], g, u, h => absurd h (Nat.lt_irrefl 0)
  | x :: l, g, u, h => by
    rw [due_cons, Pi.add_apply, Finsupp.add_apply, tallyAt_apply] at h
    by_cases hx : g = kcell (peer x.1 c) x.2 ∧ u = ()
    · exact ⟨x, List.mem_cons_self, hx.1⟩
    · rw [if_neg hx, Nat.add_zero] at h
      obtain ⟨y, hy, e⟩ := due_pos h
      exact ⟨y, List.mem_cons_of_mem _ hy, e⟩

/-- The level of a cell. -/
def rank : Slot → ℕ
  | .bar => 1
  | .came _ _ => 2
  | _ => 0

def L (g : GSem nD τ sig) : Finset Unit := if g.1.2 = .tc then {()} else ∅
def lv (g : GSem nD τ sig) (_ : Unit) : ℕ := (slotOf g).elim 0 rank

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Slot) : lv (kcell c k) () = rank k := by unfold lv; rw [slotOf_kcell]; rfl

/-- A device may wait on a cell of a lower level than what it owes. -/
theorem mayWait_due (c : Dev nD) (sm : SemLoc sig) (n : ℕ) (hn : lv ((c : Thread nD τ), sm) () ≤ n) (l : List (Fin 3 × Slot))
    (hl : ∀ x ∈ l, n < rank x.2) : (levAts L lv : sProp 𝕄) ⊢ MayWait (c : Thread nD τ) sm () (due c l) :=
  MayOwe.of_cut (L := L) (lev := lv) n (fun p hp => by rw [Finset.mem_singleton.mp hp, L_tc]; exact Finset.mem_singleton_self _)
    (fun g u hg => by obtain ⟨x, hx, rfl⟩ := due_pos hg; exact Finset.mem_singleton_self _)
    (fun p hp => by rw [Finset.mem_singleton.mp hp]; exact hn)
    (fun g u hg => by obtain ⟨x, hx, rfl⟩ := due_pos hg; rw [lv_kcell]; exact hl x hx)

end Cert.TopK
-- ==== Proof.Steps.lean ====
/- One rule per step of the kernel body. -/
module

public import proofs.«01_k».proof.Proof.Protocol
public import Idealize.ShloMosaic.Lib.Pointwise.Reshape

@[expose] public section

noncomputable section

namespace Cert.TopK

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ)

/-- Every cell's invariant, and that every cell has reached its round. -/
def records : sProp 𝕄 :=
  iprop((bigSep Finset.univ fun ck : Dev nD × Slot => cellInv ER (plan m) (K ck) (kcell ck.1 ck.2))
    ∗ bigSep Finset.univ fun ck : Dev nD × Slot => reached ER (kcell ck.1 ck.2) 0)

instance records_persistent : BI.Persistent (records m K) := by unfold records; infer_instance

theorem inv_at (c : Dev nD) (k : Slot) : records m K ⊢ cellInv ER (plan m) (K (c, k)) (kcell c k) := by
  unfold records
  exact sep_elim_left.trans (bigSep_elim (Φ := fun ck : Dev nD × Slot => cellInv ER (plan m) (K ck) (kcell ck.1 ck.2)) (Finset.mem_univ (c, k)))
theorem reached_at (c : Dev nD) (k : Slot) : records m K ⊢ reached ER (kcell c k) 0 := by
  unfold records
  exact sep_elim_right.trans (bigSep_elim (Φ := fun ck : Dev nD × Slot => (reached ER (kcell ck.1 ck.2) 0 : sProp 𝕄)) (Finset.mem_univ (c, k)))

/-- Device `c` runs `p` to `Q`. -/
abbrev runs_to (c : Dev nD) {α : Type} (p : Step (F := F) α) (Q : α → sProp 𝕄) : sProp 𝕄 :=
  wp frame (wpE (defs₀ (F := F)) Variants.none (c : Thread nD τ) none) Set.univ p Q

/-- Device `c` owes the duties of `l`. -/
def owing (c : Dev nD) (l : List (Fin 3 × Slot)) : sProp 𝕄 := iprop(∃ W, owes (c : Thread nD τ) (due c l) W)

/-- A device is at round `r` of its cell `k`. -/
abbrev at_ (c : Dev nD) (k : Slot) (r : ℕ) : sProp 𝕄 := atPos ER (kcell c k) r ∅ 0

/-- The token of duty `d` of cell `k` of device `c`. -/
abbrev tok (c : Dev nD) (k : Slot) (d : Fin 3) : sProp 𝕄 := dutyTok ER (kcell c k) 0 d

/-- The credit of `n` units on cell `k` of device `c`. -/
abbrev units (c : Dev nD) (k : Slot) (n : ℕ) : sProp 𝕄 := cred (tallyAt (kcell c k) () n)

omit [FloatOps F] in
theorem owns_written (c : Dev nD) {sp : Space} {s : Shape} {e : EltTy} (b : Memref sig .tc sp s e)
    (f : b.view.ty.Contents (Elt F)) (w : s.Idx → Elt F e) :
    (b.view.loc (c : Thread nD τ) ↦[b.view.set]{fullShare} (b.view.write (Elt F) f w Finset.univ) : sProp 𝕄)
      ⊢ owns (c : Thread nD τ) b fullShare w := by
  have h := owns_intro (Ix := Unit) (Name := ℕ) (U := UU) (Lvl := ℕ) (c : Thread nD τ) b fullShare (b.view.write (Elt F) f w Finset.univ)
  rwa [View.read_write_univ] at h

/-- A load of an owned rectangle reads what it holds. -/
theorem load_owns (c : Dev nD) {cs : CoreSpace} {s : Shape} {e : EltTy} (b : Memref sig .tc cs s e) (r : Rect s)
    (h : ∀ a, r.stride a = 1) (hl : b.view.LoadsAt r.toLoadRect) (q : PosShare TreeShare) (X : r.shape.Idx → Elt F e) (Q : (r.shape.Idx → Elt F e) → sProp 𝕄) :
    iprop(owns (c : Thread nD τ) (b.slice r h) q X ∗ (owns (c : Thread nD τ) (b.slice r h) q X -∗ Q X))
      ⊢ runs_to c (Prog.lift (.load b r.toLoadRect hl)) Q := by
  unfold owns runs_to Prog.lift
  iintro ⟨⟨%f, %hf, H⟩, Hk⟩
  iapply (wp_load_rect Variants.none (c : Thread nD τ) none Set.univ (m := b) (r := r) (hl := hl) (Finset.Subset.refl _)) $$ H
  iintro H
  rw [wp_ret]; imodintro
  have hf' : (b.access r).read (Elt F) f = X := hf
  rw [hf']
  iapply Hk
  iexists f
  isplitr; · ipureintro; exact hf
  iexact H

/-- A store to an owned rectangle fills it. -/
theorem store_owns (c : Dev nD) {cs : CoreSpace} {s : Shape} {e : EltTy} (b : Memref sig .tc cs s e) (r : Rect s)
    (h : ∀ a, r.stride a = 1) (w : r.shape.Idx → Elt F e) (hx : (b.access r).Stores Finset.univ)
    (hm : (Finset.univ : Finset r.shape.Idx) = Finset.univ ∨ ∀ a, r.stride a = 1) (Q : PUnit → sProp 𝕄) :
    iprop((∃ X, owns (c : Thread nD τ) (b.slice r h) fullShare X) ∗ (owns (c : Thread nD τ) (b.slice r h) fullShare w -∗ Q ⟨⟩))
      ⊢ runs_to c (Prog.lift (.store b r w Finset.univ hx hm)) Q := by
  iintro ⟨⟨%X, H⟩, Hk⟩
  unfold owns runs_to Prog.lift
  icases H with ⟨%f, %hf, H⟩
  iapply (wp_store Variants.none (c : Thread nD τ) none Set.univ (m := b) (r := r) (w := w) (Mk := Finset.univ) (hx := hx) (hm := hm)
    (S := (b.access r).set) (f := f) (View.setOn_univ _).subset) $$ H
  iintro H
  rw [wp_ret]; imodintro
  iapply Hk
  ihave H' := (owns_written (F := F) c (b.slice r h) f w) $$ H
  unfold owns
  iexact H'

variable (c : Dev nD)

theorem pay_copy (r : Fin 4) (d : Fin 3) : pay m c (.copy r) d
    = iprop(owns (c : Thread nD τ) (rows r) fullShare (vrow m c r) ∗ srcPts m c r) := rfl
theorem pay_bar (j : Fin 3) : pay m c .bar j = iprop(room (peer j c) j 0 ∗ room (peer j c) j 1) := rfl
theorem pay_sent (j : Fin 3) (s : Fin 2) (d : Fin 3) : pay m c (.sent j s) d
    = owns (c : Thread nD τ) (half (Memref.whole cc0_scratch1) s) (part j) (lists m c s) := rfl
theorem pay_came (j : Fin 3) (s : Fin 2) (d : Fin 3) : pay m c (.came j s) d
    = owns (c : Thread nD τ) (half (landing j) s) fullShare (lists m (peer j c) s) := rfl

theorem credit_same {s : Shape} (v v' : View sig .tc .vmem s .f32) : v.dmaCredit = v'.dmaCredit := rfl

theorem credit_mine (j : Fin 3) (s : Fin 2) : (half (Memref.whole cc0_scratch1) s).view.dmaCredit = amt (.sent j s) :=
  (credit_same (s := S256x32) _ (half (landing j) s).view).trans (credit_landing j s)

/-- Starting the copy of a row block lends the block and its room to it. -/
theorem wp_fetch (r : Fin 4) (Q : PUnit → sProp 𝕄) :
    iprop(records m K ∗ srcPts m c r ∗ (∃ X, owns (c : Thread nD τ) (rows r) fullShare X) ∗ tok c (.copy r) 0
        ∗ (units c (.copy r) (amt (.copy r)) -∗ Q ⟨⟩))
      ⊢ runs_to c (fetch c r) Q := by
  iintro ⟨#HR, Hs, ⟨%X, Hd⟩, Ht, Hk⟩
  unfold owns
  icases Hd with ⟨%f, %hf, Hd⟩
  unfold runs_to fetch Prog.lift srcPts
  iapply (Rounds.wp_copy_pointsTo Variants.none ER (plan m) (c : Thread nD τ) none (κ := K (c, .copy r))
    (r := 0) (d := 0) (q := fullShare) (fs := m ((source c r).view.loc (c : Thread nD τ))) (fd := f)
    (by rw [duties_kcell m c (.copy r)]; exact Finset.mem_singleton_self _) () (amt (.copy r))
    (show (rows r).view.amount (.dma (copySem r)) = amt (.copy r) from credit_copy r)
    (amount_kcell m c (.copy r) 0 0)
    (by
      rw [payload_kcell m c (.copy r), pay_copy]
      exact sep_mono_left (owns_written (F := F) c (rows r) f (vrow m c r)))) $$ [Hs Hd Ht]
  · isplitr; · iapply (inv_at m K c (.copy r)); iexact HR
    isplitl [Hs]; · iexact Hs
    isplitl [Hd]; · iexact Hd
    isplitl [Ht]; · iexact Ht
    iapply (reached_at m K c (.copy r)); iexact HR
  iintro Hc
  rw [wp_ret]; imodintro
  iapply Hk; iexact Hc

/-- Waiting for the copy of a row block hands the block back, filled; it is then read. -/
theorem wp_take (l : List (Fin 3 × Slot)) (hl : ∀ x ∈ l, 0 < rank x.2) (r : Fin 4) (Q : Vec F S128x8192 .f32 → sProp 𝕄) :
    iprop(records m K ∗ levAts L lv ∗ at_ c (.copy r) 0 ∗ units c (.copy r) (amt (.copy r)) ∗ owing c l
        ∗ ((at_ c (.copy r) 1 ∗ owns (c : Thread nD τ) (rows r) fullShare (vrow m c r) ∗ srcPts m c r ∗ owing c l) -∗ Q (vrow m c r)))
      ⊢ runs_to c (take c r) Q := by
  iintro ⟨#HR, #Hlev, Hat, Hc, Ho, Hk⟩
  unfold owing
  icases Ho with ⟨%W, Ho⟩
  ihave Hc := (Entails.of_eq (congrArg (fun n => (units c (.copy r) n : sProp 𝕄)) (credit_copy r).symm)) $$ Hc
  unfold runs_to take
  rw [wp_bind]
  unfold Prog.lift
  iapply (Rounds.wp_wait_rest_token Variants.none ER (plan m) (c : Thread nD τ) none (κ := K (c, .copy r))
      (wpE_waitDma2_eq Variants.none (c : Thread nD τ) none Set.univ) (Set.mem_univ _) () (O := due c l) (W := W) (R := 0) (m := 0) (T := ∅)
      (by rw [Nat.zero_add, expect_one m c (.copy r) rfl]; exact credit_copy r)) $$ [Hc Ho Hat]
  · isplitr; · iapply (inv_at m K c (.copy r)); iexact HR
    isplitl [Hc]; · iexact Hc
    isplitl [Ho]; · iexact Ho
    isplitr; · iapply (mayWait_due (F := F) c (csem (.copy r)) 0 (lv_kcell c (.copy r)).le l hl); iexact Hlev
    iexact Hat
  iintro ⟨Ho, Hat, -, Hpay⟩
  ihave Hp := (Entails.of_eq ((rest_kcell m c (.copy r)).trans (bigSep_singleton.trans (pay_copy m c r 0)))) $$ Hpay
  icases Hp with ⟨Hd, Hs⟩
  rw [wp_ret]; imodintro
  iapply (load_owns c (Memref.whole cc0_scratch0) (rowsRect r) (fun _ => rfl) (View.loadsAt_vmem h_S128x8192) fullShare (vrow m c r) Q)
  isplitl [Hd]; · iexact Hd
  iintro Hd
  iapply Hk
  isplitl [Hat]; · iexact Hat
  isplitl [Hd]; · iexact Hd
  isplitl [Hs]; · iexact Hs
  iexists _; iexact Ho

/-- Signalling a peer hands it this device's buffer for it. -/
theorem wp_hail (j : Fin 3) (l : List (Fin 3 × Slot)) (n : Dev nD) (hn : n = peer j c) (Q : PUnit → sProp 𝕄) :
    iprop(records m K ∗ owing c ((j, .bar) :: l) ∗ tok (peer j c) .bar j ∗ room c j 0 ∗ room c j 1 ∗ (owing c l -∗ Q ⟨⟩))
      ⊢ runs_to c (semSignalWord n barrier 1#32) Q := by
  subst hn
  iintro ⟨#HR, Ho, Ht, H0, H1, Hk⟩
  unfold owing
  icases Ho with ⟨%W, Ho⟩
  unfold runs_to
  simp only [semSignalWord, Prog.lift]
  iapply (Rounds.wp_signal Variants.none ER (plan m) (c : Thread nD τ) none (dst := (peer j c : Thread nD τ)) (κ := K (peer j c, .bar))
      (r := 0) (d := j) (by rw [duties_kcell m (peer j c) .bar]; exact Finset.mem_univ _)
      ((amount_kcell m (peer j c) .bar 0 j).trans rfl) () (due c l) (due_cons c (j, .bar) l)) $$ [Ho Ht H0 H1]
  · isplitr; · iapply (inv_at m K (peer j c) .bar); iexact HR
    isplitl [Ho]; · iexact Ho
    isplitl [Ht]; · iexact Ht
    isplitl [H0 H1]
    · rw [payload_kcell m (peer j c) .bar, pay_bar, peer_peer]
      isplitl [H0]; · iexact H0
      iexact H1
    iapply (reached_at m K (peer j c) .bar); iexact HR
  iintro Ho
  rw [wp_ret]; imodintro
  iapply Hk
  iexists _; iexact Ho

/-- Waiting for the three peers' signals hands over their buffers. -/
theorem wp_gather (l : List (Fin 3 × Slot)) (hl : ∀ x ∈ l, 1 < rank x.2) (Q : PUnit → sProp 𝕄) :
    iprop(records m K ∗ levAts L lv ∗ at_ c .bar 0 ∗ units c .bar 3 ∗ owing c l
        ∗ ((at_ c .bar 1 ∗ (bigSep Finset.univ fun j => pay m c .bar j) ∗ owing c l) -∗ Q ⟨⟩))
      ⊢ runs_to c (semWaitWord barrier 3#32) Q := by
  iintro ⟨#HR, #Hlev, Hat, Hc, Ho, Hk⟩
  unfold owing
  icases Ho with ⟨%W, Ho⟩
  unfold runs_to
  simp only [semWaitWord, Prog.lift]
  iapply (Rounds.wp_wait_rest_token Variants.none ER (plan m) (c : Thread nD τ) none (κ := K (c, .bar))
      (wpE_semWait_eq Variants.none (c : Thread nD τ) none Set.univ) (Set.mem_univ _) () (O := due c l) (W := W) (R := 0) (m := 0) (T := ∅)
      (by rw [Nat.zero_add, expect_kcell m c .bar]; decide)) $$ [Hc Ho Hat]
  · isplitr; · iapply (inv_at m K c .bar); iexact HR
    isplitl [Hc]; · iexact Hc
    isplitl [Ho]; · iexact Ho
    isplitr; · iapply (mayWait_due (F := F) c (csem .bar) 1 (lv_kcell c .bar).le l hl); iexact Hlev
    iexact Hat
  iintro ⟨Ho, Hat, -, Hpay⟩
  ihave Hp := (Entails.of_eq (rest_kcell m c .bar)) $$ Hpay
  rw [wp_ret]; imodintro
  iapply Hk
  isplitl [Hat]; · iexact Hat
  isplitl [Hp]; · iexact Hp
  iexists _; iexact Ho

/-- Sending half `s` to a peer lends a part of it and fills the peer's buffer. -/
theorem wp_send (j : Fin 3) (s : Fin 2) (l : List (Fin 3 × Slot)) (n : Dev nD) (hn : n = peer j c) (Q : PUnit → sProp 𝕄) :
    iprop(records m K ∗ owns (c : Thread nD τ) (half (Memref.whole cc0_scratch1) s) (part j) (lists m c s) ∗ room (peer j c) j s
        ∗ owing c ((j, .came j s) :: l) ∗ tok c (.sent j s) 0 ∗ tok (peer j c) (.came j s) 0
        ∗ ((units c (.sent j s) (amt (.sent j s)) ∗ owing c l) -∗ Q ⟨⟩))
      ⊢ runs_to c (send n j s) Q := by
  subst hn
  iintro ⟨#HR, Hs, Hd, Ho, Ht, Ht', Hk⟩
  unfold owing room owns
  icases Ho with ⟨%W, Ho⟩
  icases Hd with ⟨%X, %f, %hf, Hd⟩
  icases Hs with ⟨%g, %hg, Hs⟩
  unfold runs_to send Prog.lift
  iapply (Rounds.wp_send_pointsTo Variants.none ER (plan m) (c : Thread nD τ) none (κ₁ := K (c, .sent j s)) (κ₂ := K (peer j c, .came j s))
    (r₁ := 0) (r₂ := 0) (d₁ := 0) (d₂ := 0) (fs := g) (fd := f) (q := part j)
    (by rw [duties_kcell m c (.sent j s)]; exact Finset.mem_singleton_self _)
    (by rw [duties_kcell m (peer j c) (.came j s)]; exact Finset.mem_singleton_self _)
    () () (amt (.sent j s))
    (show (half (landing j) s).view.amount (.dma (semAt cc0_scratch7 j s)) = amt (.sent j s) from credit_landing j s) (amount_kcell m c (.sent j s) 0 0) (amount_kcell m (peer j c) (.came j s) 0 0)
    (due c l) (due_cons c (j, .came j s) l) (W := W)
    (by
      rw [payload_kcell m c (.sent j s)]
      unfold pay owns
      iintro H; iexists g; isplitr; · ipureintro; exact hg
      iexact H)
    (by
      rw [payload_kcell m (peer j c) (.came j s), pay_came, peer_peer, hg]
      exact owns_written (F := F) (peer j c) (half (landing j) s) f (lists m c s))) $$ [Hs Hd Ho Ht Ht']
  · isplitr; · iapply (inv_at m K c (.sent j s)); iexact HR
    isplitr; · iapply (inv_at m K (peer j c) (.came j s)); iexact HR
    isplitl [Hs]; · iexact Hs
    isplitl [Hd]; · iexact Hd
    isplitl [Ho]; · iexact Ho
    isplitl [Ht]; · iexact Ht
    isplitr; · iapply (reached_at m K c (.sent j s)); iexact HR
    isplitl [Ht']; · iexact Ht'
    iapply (reached_at m K (peer j c) (.came j s)); iexact HR
  iintro ⟨Hc, Ho⟩
  rw [wp_ret]; imodintro
  iapply Hk
  isplitl [Hc]; · iexact Hc
  iexists _; iexact Ho

/-- Waiting for a send and for what the peer sends: the lent part is back, and the peer's lists are there. -/
theorem wp_settle (j : Fin 3) (s : Fin 2) (Q : PUnit → sProp 𝕄) :
    iprop(records m K ∗ levAts L lv ∗ (at_ c (.sent j s) 0 ∗ units c (.sent j s) (amt (.sent j s)))
        ∗ (at_ c (.came j s) 0 ∗ units c (.came j s) (amt (.came j s))) ∗ owing c []
        ∗ (((at_ c (.sent j s) 1 ∗ at_ c (.came j s) 1)
            ∗ owns (c : Thread nD τ) (half (Memref.whole cc0_scratch1) s) (part j) (lists m c s)
            ∗ owns (c : Thread nD τ) (half (landing j) s) fullShare (lists m (peer j c) s) ∗ owing c []) -∗ Q ⟨⟩))
      ⊢ runs_to c (settle j s) Q := by
  iintro ⟨#HR, #Hlev, ⟨Hat, Hc⟩, ⟨Hat', Hc'⟩, Ho, Hk⟩
  unfold owing
  icases Ho with ⟨%W, Ho⟩
  ihave Hc := (Entails.of_eq (congrArg (fun n => (units c (.sent j s) n : sProp 𝕄)) (credit_mine j s).symm)) $$ Hc
  ihave Hc' := (Entails.of_eq (congrArg (fun n => (units c (.came j s) n : sProp 𝕄)) (credit_landing j s).symm)) $$ Hc'
  unfold runs_to settle
  rw [wp_bind]
  unfold Prog.lift
  iapply (Rounds.wp_wait_rest_token Variants.none ER (plan m) (c : Thread nD τ) none (κ := K (c, .sent j s))
      (wpE_waitDma2_eq Variants.none (c : Thread nD τ) none Set.univ) (Set.mem_univ _) () (O := due c []) (W := W) (R := 0) (m := 0) (T := ∅)
      (by rw [Nat.zero_add, expect_one m c (.sent j s) rfl]; exact credit_mine j s)) $$ [Hc Ho Hat]
  · isplitr; · iapply (inv_at m K c (.sent j s)); iexact HR
    isplitl [Hc]; · iexact Hc
    isplitl [Ho]; · iexact Ho
    isplitr; · iapply (mayWait_due (F := F) c (csem (.sent j s)) 2 (by rw [lv_kcell c (.sent j s)]; exact Nat.zero_le _) [] (fun x hx => absurd hx List.not_mem_nil)); iexact Hlev
    iexact Hat
  iintro ⟨Ho, Hat, -, Hpay⟩
  ihave Hp := (Entails.of_eq ((rest_kcell m c (.sent j s)).trans (bigSep_singleton.trans (pay_sent m c j s 0)))) $$ Hpay
  rw [wp_ret]; imodintro
  iapply (Rounds.wp_wait_rest_token Variants.none ER (plan m) (c : Thread nD τ) none (κ := K (c, .came j s))
      (wpE_waitDma2_eq Variants.none (c : Thread nD τ) none Set.univ) (Set.mem_univ _) () (O := due c []) (W := insert (csem (.sent j s), ()) W)
      (R := 0) (m := 0) (T := ∅)
      (by rw [Nat.zero_add, expect_one m c (.came j s) rfl]; exact credit_landing j s)) $$ [Hc' Ho Hat']
  · isplitr; · iapply (inv_at m K c (.came j s)); iexact HR
    isplitl [Hc']; · iexact Hc'
    isplitl [Ho]; · iexact Ho
    isplitr; · iapply (mayWait_due (F := F) c (csem (.came j s)) 2 (lv_kcell c (.came j s)).le [] (fun x hx => absurd hx List.not_mem_nil)); iexact Hlev
    iexact Hat'
  iintro ⟨Ho, Hat', -, Hpay⟩
  ihave Hp' := (Entails.of_eq ((rest_kcell m c (.came j s)).trans (bigSep_singleton.trans (pay_came m c j s 0)))) $$ Hpay
  rw [wp_ret]; imodintro
  iapply Hk
  isplitl [Hat Hat']
  · isplitl [Hat] <;> iassumption
  isplitl [Hp]; · iexact Hp
  isplitl [Hp']; · iexact Hp'
  iexists _; iexact Ho

theorem cast_self (v : FVec F S256x32 .f32) : shapeCast S256x32 v (by decide) = v := shapeCast_id v _

/-- Keeping `v` in half `s` of the device's own buffer of lists. -/
theorem wp_keep (s : Fin 2) (v : FVec F S256x32 .f32) (Q : PUnit → sProp 𝕄) :
    iprop((∃ X, owns (c : Thread nD τ) (half (Memref.whole cc0_scratch1) s) fullShare X)
        ∗ (owns (c : Thread nD τ) (half (Memref.whole cc0_scratch1) s) fullShare v -∗ Q ⟨⟩))
      ⊢ runs_to c (keep s v) Q := by
  unfold runs_to keep
  rw [wp_bind]
  iintro ⟨⟨%X, H⟩, Hk⟩
  unfold readHalf
  iapply (load_owns c (Memref.whole cc0_scratch1) (halfRect s) (fun _ => rfl) (View.loadsAt_vmem h_S256x32) fullShare X)
  isplitl [H]; · iexact H
  iintro H
  iapply (store_owns c (Memref.whole cc0_scratch1) (halfRect s) (fun _ => rfl) _ (View.stores_vmem_bits_univ h_S256x32 rfl) (.inl rfl) Q)
  isplitl [H]; · iexists _; iexact H
  rw [cast_self]
  iexact Hk

/-- Reading a half of a buffer of lists. -/
theorem wp_readHalf (b : Memref sig .tc .vmem S512x32 .f32) (s : Fin 2) (q : PosShare TreeShare) (X : Vec F S256x32 .f32)
    (Q : Vec F S256x32 .f32 → sProp 𝕄) :
    iprop(owns (c : Thread nD τ) (half b s) q X ∗ (owns (c : Thread nD τ) (half b s) q X -∗ Q X)) ⊢ runs_to c (readHalf b s) Q :=
  load_owns c b (halfRect s) (fun _ => rfl) (View.loadsAt_vmem h_S256x32) q X Q

/-- Writing rows of the result. -/
theorem wp_put (out : Memref sig .tc .vmem S1024x32 .f32) (o : Fin 2 → Nat)
    (h : ∀ a, o a + S256x32.size a ≤ S1024x32.size a) (v : FVec F S256x32 .f32) (f : Buf (Elt F) (out.view.loc (c : Thread nD τ))) (Q : PUnit → sProp 𝕄) :
    iprop((out.view.loc (c : Thread nD τ) ↦{fullShare} f)
        ∗ ((out.view.loc (c : Thread nD τ) ↦{fullShare} ((out.access (Rect.unit (s := S1024x32) o S256x32.size h)).write (Elt F) f v Finset.univ)) -∗ Q ⟨⟩))
      ⊢ runs_to c (put out o h v) Q := by
  unfold runs_to put
  rw [wp_bind]
  unfold Prog.lift
  iintro ⟨H, Hk⟩
  iapply (wp_load_rect Variants.none (c : Thread nD τ) none Set.univ (m := out) (r := Rect.unit (s := S1024x32) o S256x32.size h)
    (S := Finset.univ) (f := f) (Finset.subset_univ _)) $$ H
  iintro H
  rw [wp_ret]; imodintro
  iapply (wp_store Variants.none (c : Thread nD τ) none Set.univ (m := out) (r := Rect.unit (s := S1024x32) o S256x32.size h)
    (w := v) (Mk := Finset.univ) (S := Finset.univ) (f := f) (Finset.subset_univ _)) $$ H
  iintro H
  rw [wp_ret]; imodintro
  iapply Hk; iexact H

end Cert.TopK
-- ==== Proof.Blocks.lean ====
/- The buffers cut into the blocks the steps work on, and put together again. -/
module

public import proofs.«01_k».proof.Proof.Steps

@[expose] public section

noncomputable section

namespace Cert.TopK

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

/-- A buffer held whole, at some contents. -/
def held (b : Ref sig .tc) : sProp 𝕄 :=
  iprop(∃ f : Buf (Elt F) ((c : Thread nD τ).loc b), ((c : Thread nD τ).loc b) ↦{fullShare} f)

omit [FloatOps F] in
/-- Owned at some contents is pointed to at some contents. -/
theorem owns_some {sp : Space} {s : Shape} {e : EltTy} (b : Memref sig .tc sp s e) :
    (iprop(∃ X, owns (c : Thread nD τ) b fullShare X) : sProp 𝕄)
      ⊣⊢ iprop(∃ f, b.view.loc (c : Thread nD τ) ↦[b.view.set]{fullShare} f) := by
  constructor
  · unfold owns
    iintro ⟨%X, %f, -, H⟩; iexists f; iexact H
  · iintro ⟨%f, H⟩; iexists _
    iapply (owns_intro (c : Thread nD τ) b fullShare f); iexact H

section Cut

variable (b : Ref sig .tc) {B : Type} [Fintype B] [DecidableEq B] (R : B → Rect b.ty.shape)
  (h : ∀ i a, (R i).stride a = 1) (hd : ∀ i i', i ≠ i' → Disjoint (R i).set (R i').set)
  (hc : (Finset.univ.biUnion fun i => (R i).set) = Finset.univ)

include m hd hc in
omit [FloatOps F] in
/-- A buffer is held whole when it is held rectangle by rectangle, for disjoint rectangles that cover it. -/
theorem held_cut : (held c b : sProp 𝕄)
    ⊣⊢ bigSep Finset.univ fun i => iprop(∃ X, owns (c : Thread nD τ) ((Memref.whole b).slice (R i) (h i)) fullShare X) := by
  have e : ∀ i, (iprop(∃ X, owns (c : Thread nD τ) ((Memref.whole b).slice (R i) (h i)) fullShare X) : sProp 𝕄)
      ⊣⊢ iprop(∃ f, (c : Thread nD τ).loc b ↦[(R i).set]{fullShare} f) := fun i => by
    have := owns_some (F := F) c ((Memref.whole b).slice (R i) (h i))
    rwa [show ((Memref.whole b).slice (R i) (h i)).view.set = (R i).set from View.set_slice_whole b (R i)] at this
  constructor
  · refine BIBase.Entails.trans ?_ (bigSep_mono fun i _ => (e i).2)
    have hs : ∀ f : Buf (Elt F) ((c : Thread nD τ).loc b), (bigSep Finset.univ fun i => ((c : Thread nD τ).loc b ↦[(R i).set]{fullShare} f : sProp 𝕄))
        ⊢ bigSep Finset.univ fun i => iprop(∃ f, (c : Thread nD τ).loc b ↦[(R i).set]{fullShare} f) := fun f =>
      bigSep_mono fun i _ => exists_intro (Φ := fun f : Buf (Elt F) ((c : Thread nD τ).loc b) => ((c : Thread nD τ).loc b ↦[(R i).set]{fullShare} f : sProp 𝕄)) f
    unfold held
    iintro ⟨%f, H⟩
    ihave H' := (Entails.of_eq (Ring.pointsTo_blocks (fun i => (R i).set) hd hc f)) $$ H
    iapply (hs f); iexact H'
  · refine (bigSep_mono fun i _ => (e i).1).trans ?_
    exact Ring.pointsTo_blocks_join_exists (ℓ := (c : Thread nD τ).loc b) (fun i => (R i).set) hd hc (m ((c : Thread nD τ).loc b))

end Cut

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem rows_apart (r r' : Fin 4) (h : r ≠ r') : Disjoint (rowsRect r).set (rowsRect r').set := by
  refine Rect.unit_disjoint (s := S512x8192) 0 ?_
  have : r.val ≠ r'.val := fun e => h (Fin.ext e)
  show 128 * r.val + 128 ≤ 128 * r'.val ∨ 128 * r'.val + 128 ≤ 128 * r.val
  omega

theorem rows_cover : (Finset.univ.biUnion fun r => (rowsRect r).set) = Finset.univ := by
  refine Finset.eq_univ_of_forall fun i => Finset.mem_biUnion.mpr ?_
  have h0 : (i 0).val < 512 := (i 0).isLt
  have h1 : (i 1).val < 8192 := (i 1).isLt
  refine ⟨⟨(i 0).val / 128, by omega⟩, Finset.mem_univ _, Rect.mem_set_unit.mpr fun a => ?_⟩
  match a with
  | 0 => show 128 * ((i 0).val / 128) ≤ (i 0).val ∧ (i 0).val < 128 * ((i 0).val / 128) + 128; omega
  | 1 => show 0 ≤ (i 1).val ∧ (i 1).val < 0 + 8192; omega

theorem halves_apart (s s' : Fin 2) (h : s ≠ s') : Disjoint (halfRect s).set (halfRect s').set := by
  refine Rect.unit_disjoint (s := S512x32) 0 ?_
  have : s.val ≠ s'.val := fun e => h (Fin.ext e)
  show 256 * s.val + 256 ≤ 256 * s'.val ∨ 256 * s'.val + 256 ≤ 256 * s.val
  omega

theorem halves_cover : (Finset.univ.biUnion fun s => (halfRect s).set) = Finset.univ := by
  refine Finset.eq_univ_of_forall fun i => Finset.mem_biUnion.mpr ?_
  have h0 : (i 0).val < 512 := (i 0).isLt
  have h1 : (i 1).val < 32 := (i 1).isLt
  refine ⟨⟨(i 0).val / 256, by omega⟩, Finset.mem_univ _, Rect.mem_set_unit.mpr fun a => ?_⟩
  match a with
  | 0 => show 256 * ((i 0).val / 256) ≤ (i 0).val ∧ (i 0).val < 256 * ((i 0).val / 256) + 256; omega
  | 1 => show 0 ≤ (i 1).val ∧ (i 1).val < 0 + 32; omega

section Held

include m

/-- The local copy is held row block by row block. -/
theorem held_rows : (held c cc0_scratch0 : sProp 𝕄)
    ⊣⊢ iprop((∃ X, owns (c : Thread nD τ) (rows 0) fullShare X) ∗ (∃ X, owns (c : Thread nD τ) (rows 1) fullShare X)
      ∗ (∃ X, owns (c : Thread nD τ) (rows 2) fullShare X) ∗ (∃ X, owns (c : Thread nD τ) (rows 3) fullShare X)) :=
  (held_cut m c cc0_scratch0 rowsRect (fun _ _ => rfl) rows_apart rows_cover).trans (.of_eq (bigSep_four _))

/-- The device's own buffer of lists is held half by half; -/
theorem held_mine : (held c cc0_scratch1 : sProp 𝕄)
    ⊣⊢ iprop((∃ X, owns (c : Thread nD τ) (half (Memref.whole cc0_scratch1) 0) fullShare X)
      ∗ (∃ X, owns (c : Thread nD τ) (half (Memref.whole cc0_scratch1) 1) fullShare X)) :=
  (held_cut m c cc0_scratch1 halfRect (fun _ _ => rfl) halves_apart halves_cover).trans (.of_eq (bigSep_fin_two _))

/-- and so are the buffers for the peers' lists. -/
theorem held_landing0 : (held c cc0_scratch2 : sProp 𝕄) ⊣⊢ iprop(room c 0 0 ∗ room c 0 1) :=
  (held_cut m c cc0_scratch2 halfRect (fun _ _ => rfl) halves_apart halves_cover).trans (.of_eq (bigSep_fin_two _))
theorem held_landing1 : (held c cc0_scratch3 : sProp 𝕄) ⊣⊢ iprop(room c 1 0 ∗ room c 1 1) :=
  (held_cut m c cc0_scratch3 halfRect (fun _ _ => rfl) halves_apart halves_cover).trans (.of_eq (bigSep_fin_two _))
theorem held_landing2 : (held c cc0_scratch4 : sProp 𝕄) ⊣⊢ iprop(room c 2 0 ∗ room c 2 1) :=
  (held_cut m c cc0_scratch4 halfRect (fun _ _ => rfl) halves_apart halves_cover).trans (.of_eq (bigSep_fin_two _))

end Held

/-! ## The argument -/

theorem source_set (r : Fin 4) : (source c r).view.set = (Rect.unit (s := S1024x8192) (k0_off1 c (BitVec.ofNat 32 (128 * r.val)))
    S128x8192.size (k0_off1_inb c r)).set := View.set_slice_whole main_arg0 _

theorem source_apart (r r' : Fin 4) (h : r ≠ r') : Disjoint (source c r).view.set (source c r').view.set := by
  rw [source_set, source_set]
  refine Rect.unit_disjoint (s := S1024x8192) 0 ?_
  have : r.val ≠ r'.val := fun e => h (Fin.ext e)
  rw [k0_off1_eq, k0_off1_eq]
  show 512 * (c.val / 2) + 128 * r.val + 128 ≤ 512 * (c.val / 2) + 128 * r'.val
    ∨ 512 * (c.val / 2) + 128 * r'.val + 128 ≤ 512 * (c.val / 2) + 128 * r.val
  omega

/-- The argument, whole. -/
def argument : sProp 𝕄 := ((c : Thread nD τ).loc main_arg0) ↦{fullShare} m ((c : Thread nD τ).loc main_arg0)

/-- The part of the argument that the device does not copy. -/
def restPts : sProp 𝕄 := ((c : Thread nD τ).loc main_arg0)
  ↦[Finset.univ \ Finset.univ.biUnion fun r : Fin 4 => (source c r).view.set]{fullShare} m ((c : Thread nD τ).loc main_arg0)

/-- The argument is the four row blocks and the rest. -/
theorem argument_cut : (argument m c : sProp 𝕄)
    ⊣⊢ iprop((srcPts m c 0 ∗ srcPts m c 1 ∗ srcPts m c 2 ∗ srcPts m c 3) ∗ restPts m c) :=
  (pointsTo_split_subset (Finset.subset_univ _)).trans (sep_congr
    (.of_eq ((pointsTo_biUnion (ℓ := (c : Thread nD τ).loc main_arg0) Finset.univ (fun r : Fin 4 => (source c r).view.set)
      fun r _ r' _ h => source_apart c r r' h).trans (bigSep_four fun r => srcPts m c r))) .rfl)

/-! ## The last part of the body -/

/-- The 512 rows device `c` makes of the lists of half `s`. -/
def whole (s : Fin 2) : FVec F S512x32 .f32 :=
  joined (lists m c s) (lists m (peer 0 c) s) (lists m (peer 1 c) s) (lists m (peer 2 c) s)

/-- The result with the 256 rows from `o` on written. -/
def fill (out : Memref sig .tc .vmem S1024x32 .f32) (o : Fin 2 → Nat) (h : ∀ a, o a + S256x32.size a ≤ S1024x32.size a)
    (v : FVec F S256x32 .f32) (f : Buf (Elt F) (out.view.loc (c : Thread nD τ))) : Buf (Elt F) (out.view.loc (c : Thread nD τ)) :=
  (out.access (Rect.unit (s := S1024x32) o S256x32.size h)).write (Elt F) f v Finset.univ

/-- The result with the rows of half `s` filled. -/
def filled (out : Memref sig .tc .vmem S1024x32 .f32) (s : Fin 2) (f : Buf (Elt F) (out.view.loc (c : Thread nD τ))) :
    Buf (Elt F) (out.view.loc (c : Thread nD τ)) :=
  fill c out _ (k0_off3_inb c s) (otherRows (whole m c s)) (fill c out _ (k0_off2_inb c s) (ownRows (whole m c s)) f)

variable (K : Dev nD × Slot → ℕ)

/-- What is needed to wait for the peer of kind `j`; and what is there after. -/
def pending (j : Fin 3) (s : Fin 2) : sProp 𝕄 :=
  iprop((at_ c (.sent j s) 0 ∗ units c (.sent j s) (amt (.sent j s))) ∗ (at_ c (.came j s) 0 ∗ units c (.came j s) (amt (.came j s))))
def over (j : Fin 3) (s : Fin 2) : sProp 𝕄 := iprop(at_ c (.sent j s) 1 ∗ at_ c (.came j s) 1)

/-- What half `s` leaves. -/
def ended (s : Fin 2) : sProp 𝕄 :=
  iprop((over c 0 s ∗ over c 1 s ∗ over c 2 s) ∗ (∃ X, owns (c : Thread nD τ) (half (Memref.whole cc0_scratch1) s) fullShare X)
    ∗ room c 0 s ∗ room c 1 s ∗ room c 2 s)

theorem wp_finish (out : Memref sig .tc .vmem S1024x32 .f32) (s : Fin 2) (f : Buf (Elt F) (out.view.loc (c : Thread nD τ)))
    (Q : PUnit → sProp 𝕄) :
    iprop(records m K ∗ levAts L lv ∗ (pending c 0 s ∗ pending c 1 s ∗ pending c 2 s) ∗ owing c []
        ∗ (out.view.loc (c : Thread nD τ) ↦{fullShare} f)
        ∗ ((ended c s ∗ owing c [] ∗ (out.view.loc (c : Thread nD τ) ↦{fullShare} filled m c out s f)) -∗ Q ⟨⟩))
      ⊢ runs_to c (finish out c s (lists m c s)) Q := by
  iintro ⟨#HR, #Hlev, ⟨P0, P1, P2⟩, Ho, Hout, Hk⟩
  unfold pending
  icases P0 with ⟨S0, C0⟩
  icases P1 with ⟨S1, C1⟩
  icases P2 with ⟨S2, C2⟩
  unfold finish runs_to
  simp only [wp_bind]
  iapply (wp_settle m K c 2 s)
  isplitr; · iexact HR
  isplitr; · iexact Hlev
  isplitl [S2]; · iexact S2
  isplitl [C2]; · iexact C2
  isplitl [Ho]; · iexact Ho
  iintro ⟨A2, M2, N2, Ho⟩
  iapply (wp_settle m K c 0 s)
  isplitr; · iexact HR
  isplitr; · iexact Hlev
  isplitl [S0]; · iexact S0
  isplitl [C0]; · iexact C0
  isplitl [Ho]; · iexact Ho
  iintro ⟨A0, M0, N0, Ho⟩
  iapply (wp_settle m K c 1 s)
  isplitr; · iexact HR
  isplitr; · iexact Hlev
  isplitl [S1]; · iexact S1
  isplitl [C1]; · iexact C1
  isplitl [Ho]; · iexact Ho
  iintro ⟨A1, M1, N1, Ho⟩
  iapply (wp_readHalf c (landing 1) s)
  isplitl [N1]; · iexact N1
  iintro N1
  iapply (wp_readHalf c (landing 0) s)
  isplitl [N0]; · iexact N0
  iintro N0
  iapply (wp_readHalf c (landing 2) s)
  isplitl [N2]; · iexact N2
  iintro N2
  iapply (wp_put c out _ (k0_off2_inb c s))
  isplitl [Hout]; · iexact Hout
  iintro Hout
  iapply (wp_put c out _ (k0_off3_inb c s))
  isplitl [Hout]; · iexact Hout
  iintro Hout
  iapply Hk
  unfold ended over room
  isplitr [Ho Hout]
  · isplitl [A0 A1 A2]
    · isplitl [A0]; · iexact A0
      isplitl [A1]; · iexact A1
      iexact A2
    isplitl [M0 M1 M2]
    · iexists (lists m c s)
      iapply (owns_halves (c : Thread nD τ) (half (Memref.whole cc0_scratch1) s) fullShare (lists m c s)).2
      isplitl [M0]; · iexact M0
      iapply (owns_halves (c : Thread nD τ) (half (Memref.whole cc0_scratch1) s) fullShare.right (lists m c s)).2
      isplitl [M1]; · iexact M1
      iexact M2
    isplitl [N0]; · iexists _; iexact N0
    isplitl [N1]; · iexists _; iexact N1
    iexists _; iexact N2
  isplitl [Ho]; · iexact Ho
  iexact Hout

end Cert.TopK
-- ==== Proof.Body.lean ====
/- The kernel body of a device, from what it starts with to what it leaves. -/
module

public import proofs.«01_k».proof.Proof.Blocks

@[expose] public section

noncomputable section

namespace Cert.TopK

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD) (K : Dev nD × Slot → ℕ)

/-! ## The peers the kernel names -/

theorem dev1_eq : (⟨k0_dev1 c, k0_dev1_lt c⟩ : Dev nD) = peer 0 c := by revert c; decide
theorem dev2_eq : (⟨k0_dev2 c, k0_dev2_lt c⟩ : Dev nD) = peer 1 c := by revert c; decide
theorem dev3_eq : (⟨k0_dev3 c, k0_dev3_lt c⟩ : Dev nD) = peer 2 c := by revert c; decide
theorem dev4_eq : (⟨k0_dev4 c, k0_dev4_lt c⟩ : Dev nD) = peer 2 c := by revert c; decide
theorem dev5_eq : (⟨k0_dev5 c, k0_dev5_lt c⟩ : Dev nD) = peer 0 c := by revert c; decide
theorem dev6_eq : (⟨k0_dev6 c, k0_dev6_lt c⟩ : Dev nD) = peer 1 c := by revert c; decide
theorem dev7_eq : (⟨k0_dev7 c, k0_dev7_lt c⟩ : Dev nD) = peer 2 c := by revert c; decide
theorem dev8_eq : (⟨k0_dev8 c, k0_dev8_lt c⟩ : Dev nD) = peer 0 c := by revert c; decide
theorem dev9_eq : (⟨k0_dev9 c, k0_dev9_lt c⟩ : Dev nD) = peer 1 c := by revert c; decide

/-- What a device owes at the start, in the order in which it pays. -/
abbrev todo : List (Fin 3 × Slot) :=
  [(0, .bar), (1, .bar), (2, .bar), (2, .came 2 0), (0, .came 0 0), (1, .came 1 0),
    (2, .came 2 1), (0, .came 0 1), (1, .came 1 1)]

/-- The tokens of what a device does: the peers' barrier duties, its copies, its sends and their arrivals. -/
def payToks : sProp 𝕄 :=
  iprop((tok (peer 0 c) .bar 0 ∗ tok (peer 1 c) .bar 1 ∗ tok (peer 2 c) .bar 2)
    ∗ (tok c (.copy 0) 0 ∗ tok c (.copy 1) 0 ∗ tok c (.copy 2) 0 ∗ tok c (.copy 3) 0)
    ∗ ((tok c (.sent 0 0) 0 ∗ tok (peer 0 c) (.came 0 0) 0) ∗ (tok c (.sent 1 0) 0 ∗ tok (peer 1 c) (.came 1 0) 0)
      ∗ (tok c (.sent 2 0) 0 ∗ tok (peer 2 c) (.came 2 0) 0))
    ∗ ((tok c (.sent 0 1) 0 ∗ tok (peer 0 c) (.came 0 1) 0) ∗ (tok c (.sent 1 1) 0 ∗ tok (peer 1 c) (.came 1 1) 0)
      ∗ (tok c (.sent 2 1) 0 ∗ tok (peer 2 c) (.came 2 1) 0)))

/-- The credit a device starts with: three signals and six arrivals. -/
def startUnits : sProp 𝕄 :=
  iprop(units c .bar 3
    ∗ (units c (.came 0 0) (amt (.came 0 0)) ∗ units c (.came 1 0) (amt (.came 1 0)) ∗ units c (.came 2 0) (amt (.came 2 0)))
    ∗ (units c (.came 0 1) (amt (.came 0 1)) ∗ units c (.came 1 1) (amt (.came 1 1)) ∗ units c (.came 2 1) (amt (.came 2 1))))

/-- All of a device's cells at round `r`. -/
def rounds (r : ℕ) : sProp 𝕄 :=
  iprop(at_ c .bar r ∗ (at_ c (.copy 0) r ∗ at_ c (.copy 1) r ∗ at_ c (.copy 2) r ∗ at_ c (.copy 3) r)
    ∗ ((at_ c (.sent 0 0) r ∗ at_ c (.came 0 0) r) ∗ (at_ c (.sent 1 0) r ∗ at_ c (.came 1 0) r) ∗ (at_ c (.sent 2 0) r ∗ at_ c (.came 2 0) r))
    ∗ ((at_ c (.sent 0 1) r ∗ at_ c (.came 0 1) r) ∗ (at_ c (.sent 1 1) r ∗ at_ c (.came 1 1) r) ∗ (at_ c (.sent 2 1) r ∗ at_ c (.came 2 1) r)))

/-- The kernel's own buffers. -/
def buffers : sProp 𝕄 :=
  iprop(held c cc0_scratch0 ∗ held c cc0_scratch1 ∗ held c cc0_scratch2 ∗ held c cc0_scratch3 ∗ held c cc0_scratch4)

/-- A device sends the lists of half `s` to its peers, once it holds them and the peers' buffers. -/
theorem lend (s : Fin 2) (v : FVec F S256x32 .f32) :
    (owns (c : Thread nD τ) (half (Memref.whole cc0_scratch1) s) fullShare v : sProp 𝕄)
      ⊢ iprop(owns (c : Thread nD τ) (half (Memref.whole cc0_scratch1) s) (part 0) v
        ∗ owns (c : Thread nD τ) (half (Memref.whole cc0_scratch1) s) (part 1) v
        ∗ owns (c : Thread nD τ) (half (Memref.whole cc0_scratch1) s) (part 2) v) := by
  iintro H
  ihave H := (owns_halves (c : Thread nD τ) (half (Memref.whole cc0_scratch1) s) fullShare v).1 $$ H
  icases H with ⟨H0, H⟩
  ihave H := (owns_halves (c : Thread nD τ) (half (Memref.whole cc0_scratch1) s) fullShare.right v).1 $$ H
  icases H with ⟨H1, H2⟩
  isplitl [H0]; · iexact H0
  isplitl [H1]; · iexact H1
  iexact H2

theorem lists_zero : greatest (candidates (vrow m c 0) (vrow m c 1)) = lists m c 0 := rfl
theorem lists_one : greatest (candidates (vrow m c 2) (vrow m c 3)) = lists m c 1 := rfl

/-- The body of device `c` fills the result, pays what it owes, and leaves everything else as it was. -/
theorem wp_flat (out : Memref sig .tc .vmem S1024x32 .f32) (f : Buf (Elt F) (out.view.loc (c : Thread nD τ))) (Q : PUnit → sProp 𝕄) :
    iprop(records m K ∗ levAts L lv ∗ rounds c 0 ∗ payToks c ∗ startUnits c ∗ argument m c ∗ buffers c ∗ owing c todo
        ∗ (out.view.loc (c : Thread nD τ) ↦{fullShare} f)
        ∗ ((rounds c 1 ∗ argument m c ∗ buffers c ∗ owing c []
            ∗ (out.view.loc (c : Thread nD τ) ↦{fullShare} filled m c out 1 (filled m c out 0 f))) -∗ Q ⟨⟩))
      ⊢ runs_to c (flat out c) Q := by
  iintro ⟨#HR, #Hlev, Hat, Htok, Hun, Harg, Hbuf, Ho, Hout, Hk⟩
  unfold rounds payToks startUnits buffers
  icases Hat with ⟨Ab, ⟨Ac0, Ac1, Ac2, Ac3⟩, ⟨⟨As00, Ar00⟩, ⟨As10, Ar10⟩, ⟨As20, Ar20⟩⟩, ⟨⟨As01, Ar01⟩, ⟨As11, Ar11⟩, ⟨As21, Ar21⟩⟩⟩
  icases Htok with ⟨⟨Tb0, Tb1, Tb2⟩, ⟨Tc0, Tc1, Tc2, Tc3⟩, ⟨⟨Ts00, Tr00⟩, ⟨Ts10, Tr10⟩, ⟨Ts20, Tr20⟩⟩, ⟨⟨Ts01, Tr01⟩, ⟨Ts11, Tr11⟩, ⟨Ts21, Tr21⟩⟩⟩
  icases Hun with ⟨Ub, ⟨U00, U10, U20⟩, ⟨U01, U11, U21⟩⟩
  ihave Harg := (argument_cut m c).1 $$ Harg
  icases Harg with ⟨⟨X0, X1, X2, X3⟩, Xrest⟩
  icases Hbuf with ⟨B0, B1, B2, B3, B4⟩
  ihave B0 := (held_rows m c).1 $$ B0
  icases B0 with ⟨D0, D1, D2, D3⟩
  ihave B1 := (held_mine m c).1 $$ B1
  icases B1 with ⟨M0, M1⟩
  ihave B2 := (held_landing0 m c).1 $$ B2
  icases B2 with ⟨L00, L01⟩
  ihave B3 := (held_landing1 m c).1 $$ B3
  icases B3 with ⟨L10, L11⟩
  ihave B4 := (held_landing2 m c).1 $$ B4
  icases B4 with ⟨L20, L21⟩
  unfold flat runs_to
  simp only [wp_bind]
  iapply (wp_fetch m K c 0)
  isplitr; · iexact HR
  isplitl [X0]; · iexact X0
  isplitl [D0]; · iexact D0
  isplitl [Tc0]; · iexact Tc0
  iintro Uc0
  iapply (wp_fetch m K c 1)
  isplitr; · iexact HR
  isplitl [X1]; · iexact X1
  isplitl [D1]; · iexact D1
  isplitl [Tc1]; · iexact Tc1
  iintro Uc1
  iapply (wp_fetch m K c 2)
  isplitr; · iexact HR
  isplitl [X2]; · iexact X2
  isplitl [D2]; · iexact D2
  isplitl [Tc2]; · iexact Tc2
  iintro Uc2
  iapply (wp_fetch m K c 3)
  isplitr; · iexact HR
  isplitl [X3]; · iexact X3
  isplitl [D3]; · iexact D3
  isplitl [Tc3]; · iexact Tc3
  iintro Uc3
  iapply (wp_hail m K c 0 _ _ (dev1_eq c))
  isplitr; · iexact HR
  isplitl [Ho]; · iexact Ho
  isplitl [Tb0]; · iexact Tb0
  isplitl [L00]; · iexact L00
  isplitl [L01]; · iexact L01
  iintro Ho
  iapply (wp_hail m K c 1 _ _ (dev2_eq c))
  isplitr; · iexact HR
  isplitl [Ho]; · iexact Ho
  isplitl [Tb1]; · iexact Tb1
  isplitl [L10]; · iexact L10
  isplitl [L11]; · iexact L11
  iintro Ho
  iapply (wp_hail m K c 2 _ _ (dev3_eq c))
  isplitr; · iexact HR
  isplitl [Ho]; · iexact Ho
  isplitl [Tb2]; · iexact Tb2
  isplitl [L20]; · iexact L20
  isplitl [L21]; · iexact L21
  iintro Ho
  iapply (wp_gather m K c [(2, .came 2 0), (0, .came 0 0), (1, .came 1 0), (2, .came 2 1), (0, .came 0 1), (1, .came 1 1)] (by decide))
  isplitr; · iexact HR
  isplitr; · iexact Hlev
  isplitl [Ab]; · iexact Ab
  isplitl [Ub]; · iexact Ub
  isplitl [Ho]; · iexact Ho
  iintro ⟨Ab, Hp, Ho⟩
  ihave Hp := (Entails.of_eq (bigSep_three fun j => pay m c .bar j)) $$ Hp
  rw [pay_bar, pay_bar, pay_bar]
  icases Hp with ⟨⟨P00, P01⟩, ⟨P10, P11⟩, ⟨P20, P21⟩⟩
  iapply (wp_take m K c [(2, .came 2 0), (0, .came 0 0), (1, .came 1 0), (2, .came 2 1), (0, .came 0 1), (1, .came 1 1)] (by decide) 0)
  isplitr; · iexact HR
  isplitr; · iexact Hlev
  isplitl [Ac0]; · iexact Ac0
  isplitl [Uc0]; · iexact Uc0
  isplitl [Ho]; · iexact Ho
  iintro ⟨Ac0, D0, X0, Ho⟩
  iapply (wp_take m K c [(2, .came 2 0), (0, .came 0 0), (1, .came 1 0), (2, .came 2 1), (0, .came 0 1), (1, .came 1 1)] (by decide) 1)
  isplitr; · iexact HR
  isplitr; · iexact Hlev
  isplitl [Ac1]; · iexact Ac1
  isplitl [Uc1]; · iexact Uc1
  isplitl [Ho]; · iexact Ho
  iintro ⟨Ac1, D1, X1, Ho⟩
  rw [lists_zero]
  iapply (wp_keep c 0)
  isplitl [M0]; · iexact M0
  iintro M0
  ihave M0 := (lend c 0 (lists m c 0)) $$ M0
  icases M0 with ⟨M00, M10, M20⟩
  iapply (wp_send m K c 2 0 _ _ (dev4_eq c))
  isplitr; · iexact HR
  isplitl [M20]; · iexact M20
  isplitl [P20]; · iexact P20
  isplitl [Ho]; · iexact Ho
  isplitl [Ts20]; · iexact Ts20
  isplitl [Tr20]; · iexact Tr20
  iintro ⟨Us20, Ho⟩
  iapply (wp_send m K c 0 0 _ _ (dev5_eq c))
  isplitr; · iexact HR
  isplitl [M00]; · iexact M00
  isplitl [P00]; · iexact P00
  isplitl [Ho]; · iexact Ho
  isplitl [Ts00]; · iexact Ts00
  isplitl [Tr00]; · iexact Tr00
  iintro ⟨Us00, Ho⟩
  iapply (wp_send m K c 1 0 _ _ (dev6_eq c))
  isplitr; · iexact HR
  isplitl [M10]; · iexact M10
  isplitl [P10]; · iexact P10
  isplitl [Ho]; · iexact Ho
  isplitl [Ts10]; · iexact Ts10
  isplitl [Tr10]; · iexact Tr10
  iintro ⟨Us10, Ho⟩
  iapply (wp_take m K c [(2, .came 2 1), (0, .came 0 1), (1, .came 1 1)] (by decide) 2)
  isplitr; · iexact HR
  isplitr; · iexact Hlev
  isplitl [Ac2]; · iexact Ac2
  isplitl [Uc2]; · iexact Uc2
  isplitl [Ho]; · iexact Ho
  iintro ⟨Ac2, D2, X2, Ho⟩
  iapply (wp_take m K c [(2, .came 2 1), (0, .came 0 1), (1, .came 1 1)] (by decide) 3)
  isplitr; · iexact HR
  isplitr; · iexact Hlev
  isplitl [Ac3]; · iexact Ac3
  isplitl [Uc3]; · iexact Uc3
  isplitl [Ho]; · iexact Ho
  iintro ⟨Ac3, D3, X3, Ho⟩
  rw [lists_one]
  iapply (wp_keep c 1)
  isplitl [M1]; · iexact M1
  iintro M1
  ihave M1 := (lend c 1 (lists m c 1)) $$ M1
  icases M1 with ⟨M01, M11, M21⟩
  iapply (wp_send m K c 2 1 _ _ (dev7_eq c))
  isplitr; · iexact HR
  isplitl [M21]; · iexact M21
  isplitl [P21]; · iexact P21
  isplitl [Ho]; · iexact Ho
  isplitl [Ts21]; · iexact Ts21
  isplitl [Tr21]; · iexact Tr21
  iintro ⟨Us21, Ho⟩
  iapply (wp_send m K c 0 1 _ _ (dev8_eq c))
  isplitr; · iexact HR
  isplitl [M01]; · iexact M01
  isplitl [P01]; · iexact P01
  isplitl [Ho]; · iexact Ho
  isplitl [Ts01]; · iexact Ts01
  isplitl [Tr01]; · iexact Tr01
  iintro ⟨Us01, Ho⟩
  iapply (wp_send m K c 1 1 _ _ (dev9_eq c))
  isplitr; · iexact HR
  isplitl [M11]; · iexact M11
  isplitl [P11]; · iexact P11
  isplitl [Ho]; · iexact Ho
  isplitl [Ts11]; · iexact Ts11
  isplitl [Tr11]; · iexact Tr11
  iintro ⟨Us11, Ho⟩
  iapply (wp_finish m c K out 0 f)
  isplitr; · iexact HR
  isplitr; · iexact Hlev
  isplitl [As00 Ar00 As10 Ar10 As20 Ar20 U00 U10 U20 Us00 Us10 Us20]
  · unfold pending
    isplitl [As00 Us00 Ar00 U00]
    · isplitl [As00 Us00]
      · isplitl [As00] <;> iassumption
      isplitl [Ar00] <;> iassumption
    isplitl [As10 Us10 Ar10 U10]
    · isplitl [As10 Us10]
      · isplitl [As10] <;> iassumption
      isplitl [Ar10] <;> iassumption
    isplitl [As20 Us20]
    · isplitl [As20] <;> iassumption
    isplitl [Ar20] <;> iassumption
  isplitl [Ho]; · iexact Ho
  isplitl [Hout]; · iexact Hout
  iintro ⟨E0, Ho, Hout⟩
  iapply (wp_finish m c K out 1 (filled m c out 0 f))
  isplitr; · iexact HR
  isplitr; · iexact Hlev
  isplitl [As01 Ar01 As11 Ar11 As21 Ar21 U01 U11 U21 Us01 Us11 Us21]
  · unfold pending
    isplitl [As01 Us01 Ar01 U01]
    · isplitl [As01 Us01]
      · isplitl [As01] <;> iassumption
      isplitl [Ar01] <;> iassumption
    isplitl [As11 Us11 Ar11 U11]
    · isplitl [As11 Us11]
      · isplitl [As11] <;> iassumption
      isplitl [Ar11] <;> iassumption
    isplitl [As21 Us21]
    · isplitl [As21] <;> iassumption
    isplitl [Ar21] <;> iassumption
  isplitl [Ho]; · iexact Ho
  isplitl [Hout]; · iexact Hout
  iintro ⟨E1, Ho, Hout⟩
  unfold ended over
  icases E0 with ⟨⟨O00, O10, O20⟩, M0, L00, L10, L20⟩
  icases E1 with ⟨⟨O01, O11, O21⟩, M1, L01, L11, L21⟩
  iapply Hk
  isplitl [Ab Ac0 Ac1 Ac2 Ac3 O00 O10 O20 O01 O11 O21]
  · isplitl [Ab]; · iexact Ab
    isplitl [Ac0 Ac1 Ac2 Ac3]
    · isplitl [Ac0]; · iexact Ac0
      isplitl [Ac1]; · iexact Ac1
      isplitl [Ac2]; · iexact Ac2
      iexact Ac3
    isplitl [O00 O10 O20]
    · isplitl [O00]; · iexact O00
      isplitl [O10]; · iexact O10
      iexact O20
    isplitl [O01]; · iexact O01
    isplitl [O11]; · iexact O11
    iexact O21
  isplitl [X0 X1 X2 X3 Xrest]
  · iapply (argument_cut m c).2
    isplitr [Xrest]
    · isplitl [X0]; · iexact X0
      isplitl [X1]; · iexact X1
      isplitl [X2]; · iexact X2
      iexact X3
    iexact Xrest
  isplitr [Ho Hout]
  · isplitl [D0 D1 D2 D3]
    · iapply (held_rows m c).2
      isplitl [D0]; · iexists _; iexact D0
      isplitl [D1]; · iexists _; iexact D1
      isplitl [D2]; · iexists _; iexact D2
      iexists _; iexact D3
    isplitl [M0 M1]
    · iapply (held_mine m c).2
      isplitl [M0]; · iexact M0
      iexact M1
    isplitl [L00 L01]
    · iapply (held_landing0 m c).2
      isplitl [L00]; · iexact L00
      iexact L01
    isplitl [L10 L11]
    · iapply (held_landing1 m c).2
      isplitl [L10]; · iexact L10
      iexact L11
    iapply (held_landing2 m c).2
    isplitl [L20]; · iexact L20
    iexact L21
  isplitl [Ho]; · iexact Ho
  iexact Hout

end Cert.TopK
-- ==== Proof.Tokens.lean ====
/- What the launch deals the devices, and how it goes around: cells, tokens and credit. -/
module

public import proofs.«01_k».proof.Proof.Body

@[expose] public section

noncomputable section

namespace Cert.TopK

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD) (K : Dev nD × Slot → ℕ)

/-! ## The cells of a device, one by one -/

theorem bigSepL_step {I : Type} (i j : I) (l : List I) (Φ : I → sProp 𝕄) :
    bigSepL (i :: j :: l) Φ = iprop(Φ i ∗ bigSepL (j :: l) Φ) := rfl

/-- Positions at every cell of a device, together. -/
theorem rounds_all (r : ℕ) : (bigSep Finset.univ fun k : Slot => (at_ c k r : sProp 𝕄)) ⊣⊢ rounds c r := by
  rw [bigSep_univ_eq_bigSepL slots (by decide) (by decide)]
  unfold rounds slots
  simp only [bigSepL_step, bigSepL_singleton]
  constructor
  · iintro ⟨B, C0, C1, C2, C3, S00, S01, S10, S11, S20, S21, R00, R01, R10, R11, R20, R21⟩
    isplitl [B]; · iexact B
    isplitl [C0 C1 C2 C3]
    · isplitl [C0]; · iexact C0
      isplitl [C1]; · iexact C1
      isplitl [C2] <;> iassumption
    isplitl [S00 R00 S10 R10 S20 R20]
    · isplitl [S00 R00]; · isplitl [S00] <;> iassumption
      isplitl [S10 R10]; · isplitl [S10] <;> iassumption
      isplitl [S20] <;> iassumption
    isplitl [S01 R01]; · isplitl [S01] <;> iassumption
    isplitl [S11 R11]; · isplitl [S11] <;> iassumption
    isplitl [S21] <;> iassumption
  · iintro ⟨B, ⟨C0, C1, C2, C3⟩, ⟨⟨S00, R00⟩, ⟨S10, R10⟩, ⟨S20, R20⟩⟩, ⟨⟨S01, R01⟩, ⟨S11, R11⟩, ⟨S21, R21⟩⟩⟩
    isplitl [B]; · iexact B
    isplitl [C0]; · iexact C0
    isplitl [C1]; · iexact C1
    isplitl [C2]; · iexact C2
    isplitl [C3]; · iexact C3
    isplitl [S00]; · iexact S00
    isplitl [S01]; · iexact S01
    isplitl [S10]; · iexact S10
    isplitl [S11]; · iexact S11
    isplitl [S20]; · iexact S20
    isplitl [S21]; · iexact S21
    isplitl [R00]; · iexact R00
    isplitl [R01]; · iexact R01
    isplitl [R10]; · iexact R10
    isplitl [R11]; · iexact R11
    isplitl [R20] <;> iassumption

/-- A bigger family holds the listed members. -/
theorem bigSep_pick {I : Type} [Fintype I] [DecidableEq I] (l : List I) (hl : l.Nodup) (Φ : I → sProp 𝕄) :
    bigSep Finset.univ Φ ⊢ bigSepL l Φ := by
  rw [← bigSep_eq_bigSepL l hl Φ]
  exact bigSep_subset (Finset.subset_univ _)

/-! ## Tokens -/

/-- The device whose cell `kd` is the duty of device `c`. -/
def target (kd : Slot × Fin 3) (c : Dev nD) : Dev nD :=
  match kd with
  | (.bar, d) => peer d c
  | (.came j _, _) => peer j c
  | _ => c

theorem target_target (kd : Slot × Fin 3) : Function.Involutive (target kd) := by
  obtain ⟨k, d⟩ := kd
  intro c
  cases k with
  | bar => exact peer_peer d c
  | copy r => rfl
  | sent j s => rfl
  | came j s => exact peer_peer j c

/-- The tokens of a device's own cells. -/
def toks : sProp 𝕄 := bigSep Finset.univ fun kd : Slot × Fin 3 => tok c kd.1 kd.2

/-- The duties of a device, listed. -/
def duties : List (Slot × Fin 3) :=
  [(.bar, 0), (.bar, 1), (.bar, 2), (.copy 0, 0), (.copy 1, 0), (.copy 2, 0), (.copy 3, 0),
    (.sent 0 0, 0), (.came 0 0, 0), (.sent 1 0, 0), (.came 1 0, 0), (.sent 2 0, 0), (.came 2 0, 0),
    (.sent 0 1, 0), (.came 0 1, 0), (.sent 1 1, 0), (.came 1 1, 0), (.sent 2 1, 0), (.came 2 1, 0)]

theorem payToks_intro : (bigSep Finset.univ fun kd : Slot × Fin 3 => (tok (target kd c) kd.1 kd.2 : sProp 𝕄)) ⊢ payToks c := by
  refine (bigSep_pick duties (by decide) _).trans ?_
  unfold duties payToks
  simp only [bigSepL_step, bigSepL_singleton, target]
  iintro ⟨B0, B1, B2, C0, C1, C2, C3, S00, R00, S10, R10, S20, R20, S01, R01, S11, R11, S21, R21⟩
  isplitl [B0 B1 B2]
  · isplitl [B0]; · iexact B0
    isplitl [B1] <;> iassumption
  isplitl [C0 C1 C2 C3]
  · isplitl [C0]; · iexact C0
    isplitl [C1]; · iexact C1
    isplitl [C2] <;> iassumption
  isplitl [S00 R00 S10 R10 S20 R20]
  · isplitl [S00 R00]; · isplitl [S00] <;> iassumption
    isplitl [S10 R10]; · isplitl [S10] <;> iassumption
    isplitl [S20] <;> iassumption
  isplitl [S01 R01]; · isplitl [S01] <;> iassumption
  isplitl [S11 R11]; · isplitl [S11] <;> iassumption
  isplitl [S21] <;> iassumption

/-- The tokens go to the devices whose duties they are. -/
theorem toks_around : (bigSep Finset.univ fun c : Dev nD => (toks c : sProp 𝕄)) ⊢ bigSep Finset.univ fun c : Dev nD => payToks c := by
  refine BIBase.Entails.trans (Entails.of_eq ?_) (bigSep_mono fun c _ => payToks_intro c)
  unfold toks
  have hi : Function.Involutive fun x : Dev nD × (Slot × Fin 3) => (target x.2 x.1, x.2) :=
    fun x => Prod.ext (target_target x.2 x.1) rfl
  rw [← bigSep_univ_prod fun x : Dev nD × (Slot × Fin 3) => (tok x.1 x.2.1 x.2.2 : sProp 𝕄),
    ← bigSep_univ_prod fun x : Dev nD × (Slot × Fin 3) => (tok (target x.2 x.1) x.2.1 x.2.2 : sProp 𝕄)]
  exact bigSep_univ_equiv hi.toPerm fun x : Dev nD × (Slot × Fin 3) => (tok x.1 x.2.1 x.2.2 : sProp 𝕄)

theorem cells_inj : Function.Injective fun ck : Dev nD × Slot => kcell ck.1 ck.2 := fun _ _ h =>
  Prod.ext (kcell_inj h).1 (kcell_inj h).2

/-- All cells, and all tokens. -/
def cellSet : Finset (GSem nD τ sig) := Finset.univ.map ⟨_, cells_inj⟩

abbrev token (x : Dev nD × (Slot × Fin 3)) : GSem nD τ sig × ℕ × Fin 3 := (kcell x.1 x.2.1, 0, x.2.2)

theorem token_inj : Function.Injective token := fun x y h => by
  have h1 := kcell_inj (congrArg (fun z : GSem nD τ sig × ℕ × Fin 3 => z.1) h)
  have h2 := congrArg (fun z : GSem nD τ sig × ℕ × Fin 3 => z.2.2) h
  exact Prod.ext h1.1 (Prod.ext h1.2 h2)

def tokenSet : Finset (GSem nD τ sig × ℕ × Fin 3) := Finset.univ.map ⟨_, token_inj⟩

/-- What the launch starts from. -/
def u₀ : UU := (initOf (Pipeline.cells cfgs cellOf_inj) (Pipeline.launchToks cfgs cellOf_inj), initOf cellSet tokenSet)

/-- What a device is dealt; -/
def G : sProp 𝕄 :=
  iprop((bigSep Finset.univ fun k : Slot => roundState ER (plan m) (kcell c k) 0)
    ∗ (bigSep Finset.univ fun k : Slot => at_ c k 0) ∗ (bigSep Finset.univ fun k : Slot => reached ER (kcell c k) 0) ∗ toks c)

/-- and what it holds once the cells are set up. -/
def G' : sProp 𝕄 := iprop(∃ K, records m K ∗ rounds c 0 ∗ payToks c)

theorem fund_cells : BI.own (ER (initOf cellSet tokenSet)) ⊢ (|==> bigSep Finset.univ (G m) : sProp 𝕄) := by
  have hX (Φ : GSem nD τ sig → sProp 𝕄) : bigSep cellSet Φ = bigSep Finset.univ fun c : Dev nD => bigSep Finset.univ fun k : Slot => Φ (kcell c k) := by
    unfold cellSet; rw [bigSep_map, bigSep_univ_prod]; rfl
  have hT : bigSep tokenSet (fun x => (dutyTok ER x.1 x.2.1 x.2.2 : sProp 𝕄)) = bigSep Finset.univ fun c : Dev nD => toks c := by
    unfold tokenSet; rw [bigSep_map, bigSep_univ_prod]; rfl
  iintro HX
  imod (Rounds.fund ER (plan m) cellSet tokenSet) $$ HX with ⟨Hst, Hr, Hat, Htok⟩
  imodintro
  ihave Hst := (Entails.of_eq (hX fun g => roundState ER (plan m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-! ## The semaphores at zero -/

/-- The kernel's own semaphores: all but the barrier's. -/
abbrev osem (k : {k : Slot // k ≠ .bar}) : SemLoc sig := csem k.1

theorem unscoped_eq : (unscopedSems0 c : sProp 𝕄) = semVal (kcell c .bar) 0 := by
  unfold unscopedSems0; rw [bigSep_eq_bigSepL_of_eq [SemLoc.reg barrier] (by decide) (by decide)]; rfl

/-- All of a device's cells at zero are its own semaphores and the barrier's at zero. -/
theorem zeros_eq : (bigSep Finset.univ fun k : Slot => (semVal (kcell c k) 0 : sProp 𝕄))
    = iprop(unscopedSems0 c ∗ Pipeline.ownSems0 (Ix := Unit) (Name := ℕ) (U := UU) (Lvl := ℕ) (Val := Elt F) (τ := τ) osem c) := by
  rw [bigSep_univ_at _ Slot.bar, unscoped_eq]
  refine congrArg (fun P : sProp 𝕄 => iprop(semVal (kcell c .bar) 0 ∗ P)) ?_
  unfold Pipeline.ownSems0
  rw [show (Finset.univ : Finset Slot).erase .bar = Finset.univ.filter fun k => k ≠ .bar by decide]
  exact (bigSep_subtype (fun k : Slot => k ≠ .bar) fun k => (semVal (kcell c k) 0 : sProp 𝕄)).symm

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Slot => iprop(∃ κ : ℕ, cellInv ER (plan m) κ (kcell c k)))
          ∗ (bigSep Finset.univ fun k : Slot => at_ c k 0) ∗ (bigSep Finset.univ fun k : Slot => reached ER (kcell c k) 0) ∗ toks c) := by
  unfold G
  iintro ⟨Hos, Hus, Hst, Hat, Hr, Htok⟩
  ihave Hv := (Entails.of_eq (zeros_eq (F := F) c).symm) $$ [Hos Hus]
  · isplitl [Hus] <;> iassumption
  imod (show iprop((bigSep Finset.univ fun k : Slot => semVal (kcell c k) 0) ∗ bigSep Finset.univ fun k : Slot => roundState ER (plan m) (kcell c k) 0)
      ⊢ (|={Set.univ}=> bigSep Finset.univ fun k => iprop(∃ κ : ℕ, cellInv ER (plan m) κ (kcell c k)) : sProp 𝕄) from by
        rw [← bigSep_sep']
        exact (bigSep_mono fun k _ => (Rounds.body_intro ER (plan m) (kcell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- Every device gets the records. -/
theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : Slot => iprop(∃ κ : ℕ, cellInv ER (plan m) κ (kcell c k)))
          ∗ (bigSep Finset.univ fun k : Slot => at_ c k 0) ∗ (bigSep Finset.univ fun k : Slot => reached ER (kcell c k) 0) ∗ toks c) : sProp 𝕄)
      ⊢ bigSep Finset.univ (G' m) := by
  rw [bigSep_sep', bigSep_sep', bigSep_sep',
    ← bigSep_univ_prod (fun ck : Dev nD × Slot => iprop(∃ κ : ℕ, cellInv ER (plan m) κ (kcell ck.1 ck.2))),
    ← bigSep_univ_prod (fun ck : Dev nD × Slot => (reached ER (kcell ck.1 ck.2) 0 : sProp 𝕄))]
  iintro ⟨HI, Hat, #HR, Htok⟩
  ihave HK := (BI.bigSep_exists_pi Finset.univ (fun (ck : Dev nD × Slot) (κ : ℕ) => (cellInv ER (plan m) κ (kcell ck.1 ck.2) : sProp 𝕄))) $$ HI
  icases HK with ⟨%K, #HI⟩
  ihave Htk := (toks_around (F := F)) $$ Htok
  iapply (with_records (R := records m K) (Φ := fun c => iprop((bigSep Finset.univ fun k : Slot => at_ c k 0) ∗ payToks c)) fun c => by
    unfold G'
    iintro ⟨#H, Ha, Hp⟩
    iexists K
    isplitr; · iexact H
    isplitl [Ha]; · iapply (rounds_all c 0).1; iexact Ha
    iexact Hp)
  rw [bigSep_sep']
  isplitr
  · unfold records; isplitl; · iexact HI
    iexact HR
  isplitl [Hat]; · iexact Hat
  iexact Htk

/-- All devices' cells are set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- A finished cell is at zero. -/
theorem close_all : iprop(records m K ∗ rounds c 1) ⊢ (|={Set.univ}=> bigSep Finset.univ fun k : Slot => semVal (kcell c k) 0 : sProp 𝕄) := by
  iintro ⟨#HR, Hat⟩
  ihave Hat := (rounds_all c 1).2 $$ Hat
  iapply (bigSep_fupd Finset.univ fun k : Slot => (semVal (kcell c k) 0 : sProp 𝕄))
  have h : (bigSep Finset.univ fun k : Slot => iprop(cellInv ER (plan m) (K (c, k)) (kcell c k) ∗ at_ c k 1))
      ⊢ bigSep Finset.univ fun k : Slot => (iprop(|={Set.univ}=> semVal (kcell c k) 0) : sProp 𝕄) :=
    bigSep_mono fun k _ => Rounds.cell_close ER (plan m) (Set.mem_univ (K (c, k))) (fun h => h) (R := 1) (duties_later m (kcell c k))
  iapply h
  rw [bigSep_sep']
  isplitr [Hat]
  · iapply (BI.bigSep_intro_persistent fun (k : Slot) _ => inv_at m K c k); iexact HR
  iexact Hat

/-! ## The credit -/

/-- How many duties of a list are at cell `k`. -/
def count (l : List (Fin 3 × Slot)) (k : Slot) : ℕ := (l.filter fun x => x.2 = k).length

theorem due_at (l : List (Fin 3 × Slot)) (k : Slot) : ∑ d : Dev nD, due d l (kcell c k) () = count l k * amt k := by
  induction l with
  | nil => exact (Finset.sum_eq_zero fun d _ => rfl).trans (Nat.zero_mul _).symm
  | cons x l ih =>
    have e : ∀ d : Dev nD, (tallyAt (kcell (peer x.1 d) x.2) () (amt x.2) : CellTallies nD τ sig Unit) (kcell c k) ()
        = if d = peer x.1 c then (if x.2 = k then amt k else 0) else 0 := fun d => by
      rw [tallyAt_apply]
      by_cases h : d = peer x.1 c ∧ x.2 = k
      · obtain ⟨rfl, rfl⟩ := h
        rw [peer_peer, if_pos ⟨rfl, rfl⟩, if_pos rfl, if_pos rfl]
      · rw [if_neg fun hh => h ?_]
        · by_cases h1 : d = peer x.1 c
          · rw [if_pos h1, if_neg fun h2 => h ⟨h1, h2⟩]
          · rw [if_neg h1]
        · obtain ⟨h1, h2⟩ := kcell_inj hh.1
          exact ⟨by rw [h1, peer_peer], h2.symm⟩
    rw [Finset.sum_congr rfl fun d _ => (congrArg (fun t : CellTallies nD τ sig Unit => t (kcell c k) ()) (due_cons d x l)).trans
      ((Finsupp.add_apply _ _ _).trans (congrArg _ (e d))), Finset.sum_add_distrib, ih, Finset.sum_ite_eq' Finset.univ (peer x.1 c),
      if_pos (Finset.mem_univ _)]
    unfold count
    by_cases h : x.2 = k
    · rw [if_pos h, List.filter_cons_of_pos (by simpa using h), List.length_cons, Nat.succ_mul]
    · rw [if_neg h, List.filter_cons_of_neg (by simpa using h), Nat.add_zero]

theorem launch_at (k : Slot) : tallyOn (kcell c k) (launchCredit (Pipeline.owing fun d => due d todo) 0 (kcell c k))
    = (tallyAt (kcell c k) () (count todo k * amt k) : CellTallies nD τ sig Unit) := by
  unfold tallyAt; refine congrArg _ (Finsupp.ext fun u => ?_); cases u
  rw [Pipeline.launchCredit_owing, Finsupp.single_eq_same]
  exact due_at c todo k

/-- The cells with credit at the start. -/
def credited : List Slot := [.bar, .came 0 0, .came 1 0, .came 2 0, .came 0 1, .came 1 1, .came 2 1]

theorem units_of (k : Slot) (n : ℕ) (h : count todo k = n) :
    (units c k (count todo k * amt k) : sProp 𝕄) ⊢ units c k (n * amt k) := Entails.of_eq (by rw [h])
theorem units_one (k : Slot) (h : count todo k = 1) : (units c k (count todo k * amt k) : sProp 𝕄) ⊢ units c k (amt k) :=
  Entails.of_eq (by rw [h, Nat.one_mul])

theorem creds : (Pipeline.launchCred (fun d => due d todo) c : sProp 𝕄) ⊢ startUnits c := by
  unfold Pipeline.launchCred
  refine (bigSep_subset (t := Finset.univ.map ⟨csem, csem_inj⟩) (Finset.subset_univ _)).trans ?_
  rw [bigSep_map]
  refine (Entails.of_eq (bigSep_congr fun k _ => congrArg (fun t => (cred t : sProp 𝕄)) (launch_at c k))).trans ?_
  refine (bigSep_pick credited (by decide) _).trans ?_
  unfold credited startUnits
  simp only [bigSepL_step, bigSepL_singleton]
  iintro ⟨B, R00, R10, R20, R01, R11, R21⟩
  isplitl [B]; · iapply (units_of c .bar 3 (by decide)); iexact B
  isplitl [R00 R10 R20]
  · isplitl [R00]; · iapply (units_one c (.came 0 0) (by decide)); iexact R00
    isplitl [R10]; · iapply (units_one c (.came 1 0) (by decide)); iexact R10
    iapply (units_one c (.came 2 0) (by decide)); iexact R20
  isplitl [R01]; · iapply (units_one c (.came 0 1) (by decide)); iexact R01
  isplitl [R11]; · iapply (units_one c (.came 1 1) (by decide)); iexact R11
  iapply (units_one c (.came 2 1) (by decide)); iexact R21

end Cert.TopK
-- ==== Proof.Launch.lean ====
/- The run of the whole mesh: every device ends with the same formula of what the devices hold. -/
module

public import proofs.«01_k».proof.Proof.Tokens
public import proofs.«01_k».proof.Proof.Gen.KernelIdeal.Frame
public import Idealize.ShloMosaic.Lib.Pipeline.CollectiveSegs
public import Idealize.ShloMosaic.Lib.Pipeline.ValueKit.Geometry

@[expose] public section

noncomputable section

namespace Cert.TopK

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The result -/

/-- The result's staging buffer. -/
abbrev outM : Memref sig .tc .vmem S1024x32 .f32 := Memref.whole cc0_stg0_0

/-- A written row reads what was written; -/
theorem fill_of_mem (o : Fin 2 → Nat) (h : ∀ a, o a + S256x32.size a ≤ S1024x32.size a) (v : FVec F S256x32 .f32)
    (f : Buf (Elt F) (outM.view.loc (c : Thread nD τ))) (i : S1024x32.Idx) (x : S256x32.Idx) (hx : ∀ a, (i a).val = o a + (x a).val) :
    fill c outM o h v f i = v x := by
  have e : (outM.access (Rect.unit (s := S1024x32) o S256x32.size h)).emb x = i := funext fun a => Fin.ext (by
    show o a + 1 * (x a).val = (i a).val
    rw [hx a, Nat.one_mul])
  unfold fill
  rw [← e]
  exact View.write_emb_of_mem (v := outM.access (Rect.unit (s := S1024x32) o S256x32.size h)) f v (Finset.mem_univ x)

/-- and a row that is not written reads what was there. -/
theorem fill_of_not_mem (o : Fin 2 → Nat) (h : ∀ a, o a + S256x32.size a ≤ S1024x32.size a) (v : FVec F S256x32 .f32)
    (f : Buf (Elt F) (outM.view.loc (c : Thread nD τ))) (i : S1024x32.Idx) (hi : (i 0).val < o 0 ∨ o 0 + 256 ≤ (i 0).val) :
    fill c outM o h v f i = f i := by
  unfold fill
  refine View.write_of_not_mem (v := outM.access (Rect.unit (s := S1024x32) o S256x32.size h)) f v Finset.univ fun hm => ?_
  rw [View.setOn_univ] at hm
  have hm' : i ∈ (Rect.unit (s := S1024x32) o S256x32.size h).set := by rw [← View.set_slice_whole cc0_stg0_0 (Rect.unit (s := S1024x32) o S256x32.size h)]; exact hm
  have := Rect.mem_set_unit.mp hm' 0
  have e : S256x32.size 0 = 256 := rfl
  rw [e] at this
  omega

/-- Where row `i` of the result is in the rows its half `s` makes: first the device's own row half's, then the other's. -/
def spot (i : S1024x32.Idx) : S512x32.Idx
  | 0 => ⟨if (i 0).val / 512 = c.val / 2 then (i 0).val % 256 else 256 + (i 0).val % 256, by
      show _ < 512; split <;> omega⟩
  | 1 => ⟨(i 1).val, (i 1).isLt⟩

/-- The half of row `i`. -/
def part2 (i : S1024x32.Idx) : Fin 2 := ⟨(i 0).val % 512 / 256, by omega⟩

/-- The result. -/
def outAt : S1024x32.Idx → Elt F .f32 := fun i => whole m c (part2 i) (spot c i)

theorem own_zero (s : Fin 2) : k0_off2 c (BitVec.ofNat 32 (256 * s.val)) 0 = 512 * (c.val / 2) + 256 * s.val := by
  rw [k0_off2_eq]; rfl
theorem own_one (s : Fin 2) : k0_off2 c (BitVec.ofNat 32 (256 * s.val)) 1 = 0 := by rw [k0_off2_eq]; rfl
theorem other_zero (s : Fin 2) : k0_off3 c (BitVec.ofNat 32 (256 * s.val)) 0 = 256 * s.val + 512 - 512 * (c.val / 2) := by
  rw [k0_off3_eq]; rfl
theorem other_one (s : Fin 2) : k0_off3 c (BitVec.ofNat 32 (256 * s.val)) 1 = 0 := by rw [k0_off3_eq]; rfl

/-- A row of half `s` is filled with the result; -/
theorem filled_of (s : Fin 2) (f : Buf (Elt F) (outM.view.loc (c : Thread nD τ))) (i : S1024x32.Idx) (hs : part2 i = s) :
    filled m c outM s f i = outAt m c i := by
  have hi : (i 0).val < 1024 := (i 0).isLt
  have hc : c.val < 4 := c.isLt
  have hp : (i 0).val % 512 / 256 = s.val := congrArg Fin.val hs
  unfold filled outAt
  rw [hs]
  by_cases h : (i 0).val / 512 = c.val / 2
  · rw [fill_of_not_mem c _ _ _ _ i (by rw [other_zero]; omega),
      fill_of_mem c _ _ _ _ i (fun a => match a with | 0 => ⟨(i 0).val % 256, Nat.mod_lt _ (by decide)⟩ | 1 => ⟨(i 1).val, (i 1).isLt⟩)
        (fun a => match a with
          | 0 => by rw [own_zero]; show (i 0).val = 512 * (c.val / 2) + 256 * s.val + (i 0).val % 256; omega
          | 1 => by rw [own_one]; exact (Nat.zero_add _).symm)]
    unfold ownRows extractStridedSlice
    refine congrArg (whole m c s) (funext fun a => Fin.ext ?_)
    match a with
    | 0 => show 0 + (i 0).val % 256 = if (i 0).val / 512 = c.val / 2 then (i 0).val % 256 else 256 + (i 0).val % 256; rw [if_pos h, Nat.zero_add]
    | 1 => exact Nat.zero_add _
  · rw [fill_of_mem c _ _ _ _ i (fun a => match a with | 0 => ⟨(i 0).val % 256, Nat.mod_lt _ (by decide)⟩ | 1 => ⟨(i 1).val, (i 1).isLt⟩)
        (fun a => match a with
          | 0 => by rw [other_zero]; show (i 0).val = 256 * s.val + 512 - 512 * (c.val / 2) + (i 0).val % 256; omega
          | 1 => by rw [other_one]; exact (Nat.zero_add _).symm)]
    unfold otherRows extractStridedSlice
    refine congrArg (whole m c s) (funext fun a => Fin.ext ?_)
    match a with
    | 0 => show 256 + (i 0).val % 256 = if (i 0).val / 512 = c.val / 2 then (i 0).val % 256 else 256 + (i 0).val % 256; rw [if_neg h]
    | 1 => exact Nat.zero_add _

/-- a row of the other half keeps what it held. -/
theorem filled_other (s : Fin 2) (f : Buf (Elt F) (outM.view.loc (c : Thread nD τ))) (i : S1024x32.Idx) (hs : part2 i ≠ s) :
    filled m c outM s f i = f i := by
  have hi : (i 0).val < 1024 := (i 0).isLt
  have hc : c.val < 4 := c.isLt
  have hp : (i 0).val % 512 / 256 ≠ s.val := fun e => hs (Fin.ext e)
  unfold filled
  rw [fill_of_not_mem c _ _ _ _ i (by rw [other_zero]; omega), fill_of_not_mem c _ _ _ _ i (by rw [own_zero]; omega)]

/-- Both halves filled, the result is there, whatever was there before. -/
theorem filled_both (f : Buf (Elt F) (outM.view.loc (c : Thread nD τ))) : filled m c outM 1 (filled m c outM 0 f) = outAt m c := by
  funext i
  by_cases h : part2 i = 1
  · exact filled_of m c 1 _ i h
  · rw [filled_other m c 1 _ i h]
    exact filled_of m c 0 _ i (by omega)

/-! ## The pipeline's data -/

/-- What a device starts with beside its buffers. -/
def start : sProp 𝕄 := iprop(G' m c ∗ startUnits c ∗ levAts L lv ∗ argument m c)

def Φ₀ : sProp 𝕄 := iprop(start m c ∗ buffers c)
def Φ₁ : sProp 𝕄 := iprop((bigSep Finset.univ fun k : Slot => semVal (kcell c k) 0) ∗ argument m c ∗ buffers c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => due c todo
    | ⟨_ + 1, _⟩ => 0

theorem whole_owned (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := owns_whole (c : Thread nD τ) b fullShare X

/-- What the body starts from; and what it leaves. -/
def bodyPre : sProp 𝕄 :=
  iprop(Φ₀ m c ∗ (dats m ρ 0 c).owesAt () t0_0.castSucc
    ∗ (∃ d, ((c : Thread nD τ).loc cc0_stg0_0) ↦{fullShare} ((dats m ρ 0 c).before (0 : Fin 1) t0_0 d)))
def bodyPost : sProp 𝕄 :=
  iprop(Φ₁ m c ∗ (dats m ρ 0 c).owesAt () t0_0.succ ∗ (((c : Thread nD τ).loc cc0_stg0_0) ↦{fullShare} outAt m c))

theorem sound_body : bodyPre m ρ c ⊢ runs_to c (flat outM c) (fun _ => bodyPost m ρ c) := by
  unfold bodyPre Φ₀ start G'
  iintro ⟨⟨⟨⟨%K, #HR, Hat, Htok⟩, Hun, #Hlev, Harg⟩, Hbuf⟩, Ho, ⟨%d, Hout⟩⟩
  unfold Dat.owesAt Pipeline.owesWithin
  icases Ho with ⟨%W, -, Ho⟩
  iapply (wp_fupd frame (wpE (defs₀ (F := F)) Variants.none (c : Thread nD τ) none) Set.univ (flat outM c) fun _ => bodyPost m ρ c)
  iapply (wp_flat m c K outM ((dats m ρ 0 c).before (0 : Fin 1) t0_0 d))
  isplitr; · iexact HR
  isplitr; · iexact Hlev
  isplitl [Hat]; · iexact Hat
  isplitl [Htok]; · iexact Htok
  isplitl [Hun]; · iexact Hun
  isplitl [Harg]; · iexact Harg
  isplitl [Hbuf]; · iexact Hbuf
  isplitl [Ho]; · unfold owing; iexists W; iexact Ho
  isplitl [Hout]; · iexact Hout
  iintro ⟨Hat, Harg, Hbuf, Ho, Hout⟩
  imod (close_all m c K) $$ [Hat] with Hz
  · isplitr; · iexact HR
    iexact Hat
  imodintro
  unfold bodyPost Φ₁ owing
  icases Ho with ⟨%W', Ho⟩
  isplitl [Hz Harg Hbuf]
  · isplitl [Hz]; · iexact Hz
    isplitl [Harg]; · iexact Harg
    iexact Hbuf
  isplitl [Ho]
  · unfold Dat.owesAt Pipeline.owesWithin
    iexists W'
    isplitr; · ipureintro; exact fun _ _ => Or.inl (Set.mem_univ _)
    iexact Ho
  rw [filled_both]
  iexact Hout

theorem body_obligation : BodyObligation (dats (F := F) m ρ 0 c) (defs₀ (F := F)) Variants.none () Set.univ := fun t => by
  rw [fin_N0 t]
  rw [bigSep_W0, bigSep_W0]
  simp only [whole_owned]
  show bodyPre m ρ c ⊢ runs_to c (bodyAt0 t0_0) (fun _ => bodyPost m ρ c)
  rw [body_eq]
  unfold runs_to
  simp only [Prog.lift, Prog.bind_op, Prog.bind_ret, Prog.pure_eq_ret, wp_deviceId]
  exact sound_body m ρ c

/-! ## The launch -/

theorem ownSemFacts : Pipeline.OwnSemFacts cfg0.spec osem := by decide

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred (fun d => due d todo) c ∗ prngReg c (ρ c) ∗ G' m c)
      ⊢ |={Set.univ}=> iprop(start m c ∗ emp) := by
  rw [Pipeline.unscopedRestP_none, unscopedRest0_eq]
  iintro ⟨Harg, Hlev, Hcr, -, HG⟩
  ihave Hc := (creds (F := F) c) $$ Hcr
  imodintro
  unfold start argument
  isplitl
  · isplitl [HG]; · iexact HG
    isplitl [Hc]; · iexact Hc
    isplitl [Hlev]; · iexact Hlev
    iexact Harg
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ buffers held
  iintro ⟨Hs, -, Hr⟩
  isplitl [Hs]; · iexact Hs
  iexact Hr

theorem phi1_exit :
    (dats m ρ 0 c).Φ (Fin.last cfg0.N) ⊢ iprop((unscopedSems0 c ∗ argument m c) ∗ Pipeline.ownSems0 osem c ∗ Pipeline.scopedRest cfg0.spec c) := by
  rw [show (dats m ρ 0 c).Φ (Fin.last cfg0.N) = Φ₁ m c from rfl, scopedRest0_eq]
  unfold Φ₁ buffers held
  rw [zeros_eq]
  iintro ⟨⟨Hu, Ho⟩, Ha, Hr⟩
  isplitl [Hu Ha]
  · isplitl [Hu] <;> iassumption
  isplitl [Ho]; · iexact Ho
  iexact Hr

theorem stage_low (q : DmaSem sig) (h : q = 0) : lv ((c : Thread nD τ), SemLoc.dma q) () = 0 := by
  subst h
  unfold lv slotOf Function.partialInv
  rw [if_pos rfl, dif_neg (fun ⟨k, hk⟩ => (show ∀ k : Slot, csem k ≠ SemLoc.dma 0 by decide) k hk)]
  rfl

theorem waits : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_due c _ 0 (stage_low c _ (by fin_cases w; fin_cases s; rfl)).le todo (by decide)
    · show _ ⊢ MayWait _ _ _ 0
      rw [MayWait_zero]; iintro -; iempintro

/-- The memory after the run: every device holds the result, and its part of the argument as it was; -/
def Ends (r : PUnit × MemSt nD τ sig (Elt F)) : Prop :=
  ∀ c : Dev nD, r.2.mem ((c : Thread nD τ).loc main_v1) = outAt m c ∧ r.2.mem ((c : Thread nD τ).loc main_arg0) = m ((c : Thread nD τ).loc main_arg0)

/-- The result array is written whole. -/
theorem final_eq : (dats m ρ 0 c).arrAt (0 : Fin 1) cfg0.N = outAt m c :=
  (dats m ρ 0 c).arrAt_eq_of_after_last (0 : Fin 1) t0_0 (by decide +kernel) _ fun _ => rfl

/-- Every run of the mesh ends, with the result and the argument as said and every semaphore at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => due d todo) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ argument m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      iintro ⟨⟨Hu, Ha⟩, -, HSI⟩
      unfold argument
      icombine HSI Ha gives %ha
      imod (Pipeline.unscopedSems0_read (X := unscopedSems0 c) (c := c) fupd_intro s') $$ [Hu HSI] with ⟨%hu, HSI⟩
      · isplitl [Hu] <;> iassumption
      imodintro
      isplitr
      · ipureintro; exact ⟨hu, funext fun i => ha i (Finset.mem_univ i)⟩
      iexact HSI)
    (hQ := fun _ h hs => ⟨fun c => ⟨((h c).1 (0 : Fin 1)).trans (final_eq m ρ c), (h c).2.2.2⟩, sem_eq_zero hs fun c => (h c).2.2.1⟩)

end Cert.TopK
-- ==== Proof.Frames.lean ====
/- Every run of the kernel, of its ideal reading and of the reference ends, with its arguments as they were and every
   semaphore at zero. -/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.TopK

open Idealize.ShloMosaic Idealize.ShloMosaic.TcCoe Idealize.SL.Sem

theorem frame_ideal : Cert.quiescent_KernelIdeal := fun m ρ _ =>
  (θ_run Cert.KernelIdeal.defs _ _).mono (fun _ h => ⟨fun c => (h.1 c).2, h.2⟩) (run_main (F := Ideal) m ρ)

/-- The kernel's bodies are its ideal reading's; -/
theorem bodies_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

/-- and so are its regions. -/
theorem defs_same : Cert.Kernel.defs (F := Bits) = Cert.KernelIdeal.defs (F := Bits) := by
  unfold Cert.Kernel.defs Cert.KernelIdeal.defs
  rw [bodies_same]
  rfl

theorem frame_kernel : Cert.quiescent_Kernel := fun m ρ _ => by
  have h := (θ_run (Cert.KernelIdeal.defs (F := Bits)) (onTc (τ := Cert.KernelIdeal.τ) (Cert.KernelIdeal.main (F := Bits))) ⟨m, fun _ => 0, ρ⟩).mono
    (Q' := fun r => (∀ c : Dev Cert.KernelIdeal.nD, r.2.mem ((c.tc : Thread Cert.KernelIdeal.nD Cert.KernelIdeal.τ).loc Cert.KernelIdeal.main_arg0)
      = m ((c.tc : Thread Cert.KernelIdeal.nD Cert.KernelIdeal.τ).loc Cert.KernelIdeal.main_arg0)) ∧ r.2.sem = fun _ => 0)
    (fun _ h => ⟨fun c => (h.1 c).2, h.2⟩) (run_main (F := Bits) m ρ)
  rw [defs_same]
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.TopK
-- ==== Proof.Order.lean ====
/- Counting the entries of a finite family that reach a threshold: what the two greatest values of a family, the greatest
   values taken one by one, and a sorted copy of the family say of that count. -/
module

public import Idealize.ShloMosaic.PureOps
public import Idealize.ShloMosaic.PureOps.Ideal
public import Mathlib.Data.EReal.Basic
public import Idealize.ShloMosaic.Lib.SortFacts
public import Mathlib.Order.Interval.Finset.Fin

@[expose] public section

noncomputable section

namespace Cert.TopK

open Finset

variable {ι : Type} [Fintype ι]

/-- How many entries of `a` are at least `y`. -/
def many (a : ι → EReal) (y : EReal) : ℕ := by
  classical exact (univ.filter fun k => y ≤ a k).card

/-- The distinct values of `a` that are at least `y`. -/
def values (a : ι → EReal) (y : EReal) : Finset EReal := by
  classical exact (univ.image a).filter fun v => y ≤ v

theorem mem_values {a : ι → EReal} {y v : EReal} : v ∈ values a y ↔ y ≤ v ∧ ∃ k, a k = v := by
  classical
  unfold values
  simp [and_comm]

/-- A rearrangement has as many entries at least `y`. -/
theorem many_comp {κ : Type} [Fintype κ] (a : ι → EReal) (e : κ ≃ ι) (y : EReal) :
    many (fun k => a (e k)) y = many a y := by
  classical
  unfold many
  refine card_bij (fun k _ => e k) (by simp) (fun _ _ _ _ h => e.injective h) fun b hb => ?_
  exact ⟨e.symm b, by simpa using hb, by simp⟩

/-- A family that is pointwise at least another where the other reaches `y` has as many entries that reach it. -/
theorem many_mono {a b : ι → EReal} {y : EReal} (h : ∀ k, y ≤ a k → y ≤ b k) : many a y ≤ many b y := by
  classical
  unfold many
  exact card_le_card fun k hk => by simpa using h k (by simpa using hk)

/-- Over two families put side by side the counts add. -/
theorem many_sum {κ : Type} [Fintype κ] (a : ι ⊕ κ → EReal) (y : EReal) :
    many a y = many (fun k => a (.inl k)) y + many (fun k => a (.inr k)) y := by
  classical
  unfold many
  rw [card_filter, card_filter, card_filter, Fintype.sum_sum_type]

theorem many_le_card (a : ι → EReal) (y : EReal) : many a y ≤ Fintype.card ι := by
  classical
  unfold many
  exact card_le_univ _

/-- Where no two entries at least `y` are equal, the entries are counted by their values. -/
theorem card_values {a : ι → EReal} {y : EReal} (h : ∀ j k, y ≤ a j → a j = a k → j = k) :
    (values a y).card = many a y := by
  classical
  have e : values a y = (univ.filter fun k => y ≤ a k).image a := by
    ext v
    rw [mem_values]
    simp only [mem_image, mem_filter, mem_univ, true_and]
    exact ⟨fun ⟨h, k, e⟩ => ⟨k, e ▸ h, e⟩, fun ⟨k, h, e⟩ => ⟨e ▸ h, k, e⟩⟩
  rw [e, many, card_image_of_injOn]
  intro j hj k _ e
  exact h j k (by simpa using hj) e

/-! ## A sorted copy -/

/-- Entry `p` of an ascending family reaches `y` when more entries reach it than come after `p`. -/
theorem le_of_many {n : ℕ} {s : Fin n → EReal} (hs : Monotone s) (p : Fin n) (y : EReal)
    (h : n - 1 - p.val < many s y) : y ≤ s p := by
  classical
  by_contra hp
  have hsub : (univ.filter fun k => y ≤ s k) ⊆ Ioi p := by
    intro k hk
    rw [mem_Ioi]
    by_contra hle
    exact hp (le_trans (by simpa using hk) (hs (not_lt.mp hle)))
  have := card_le_card hsub
  rw [Fin.card_Ioi] at this
  unfold many at h
  omega

/-- Entry `i` of a descending family reaches `y` exactly when more than `i` entries do. -/
theorem le_iff_lt_many {n : ℕ} {s : Fin n → EReal} (hs : Antitone s) (i : Fin n) (y : EReal) :
    y ≤ s i ↔ i.val < many s y := by
  classical
  unfold many
  constructor
  · intro h
    have hsub : Iic i ⊆ univ.filter fun k => y ≤ s k := by
      intro k hk
      simpa using le_trans h (hs (mem_Iic.mp hk))
    have := card_le_card hsub
    rw [Fin.card_Iic] at this
    omega
  · intro h
    by_contra hp
    have hsub : (univ.filter fun k => y ≤ s k) ⊆ Iio i := by
      intro k hk
      rw [mem_Iio]
      by_contra hle
      exact hp (le_trans (by simpa using hk) (hs (not_lt.mp hle)))
    have := card_le_card hsub
    rw [Fin.card_Iio] at this
    omega

/-- An ascending family whose neighbours are equal only below `y` has no two equal entries at least `y`. -/
theorem distinct_of_sorted {n : ℕ} {s : Fin (n + 1) → EReal} (hs : Monotone s) {y : EReal}
    (h : ∀ p : Fin n, s p.castSucc = s p.succ → s p.succ < y) (p q : Fin (n + 1)) (hp : y ≤ s p) (e : s p = s q) :
    p = q := by
  have key : ∀ p q : Fin (n + 1), p < q → s p = s q → y ≤ s p → False := by
    intro p q hlt e hy
    have hpn : p.val < n := by have := q.isLt; have := Fin.lt_def.mp hlt; omega
    let r : Fin n := ⟨p.val, hpn⟩
    have hr : r.castSucc = p := Fin.ext rfl
    have h1 : s p ≤ s r.succ := hs (by rw [← hr]; exact le_of_lt (Fin.castSucc_lt_succ))
    have h2 : s r.succ ≤ s q := hs (Fin.le_def.mpr (by have := Fin.lt_def.mp hlt; simp [r]; omega))
    have e1 : s p = s r.succ := le_antisymm h1 (e ▸ h2)
    exact absurd (h r (by rw [hr]; exact e1)) (not_lt.mpr (e1 ▸ hy))
  rcases lt_trichotomy p q with hlt | rfl | hgt
  · exact (key p q hlt e hp).elim
  · rfl
  · exact (key q p hgt e.symm (e ▸ hp)).elim

/-! ## The two greatest values -/

/-- `m` is the greatest value of `a`, and `m'` the greatest of those below it (or the least extended real). -/
structure Two (a : ι → EReal) (m m' : EReal) : Prop where
  le : ∀ k, a k ≤ m
  mem : ∃ k, a k = m
  le' : ∀ k, a k ≠ m → a k ≤ m'
  mem' : m' = ⊥ ∨ ∃ k, a k = m' ∧ m' ≠ m

/-- Where at most two entries reach `y`, the two greatest values are all the values that reach it. -/
theorem Two.iff {a : ι → EReal} {m m' : EReal} (h : Two a m m') {y : EReal} (hy : ⊥ < y) (hc : many a y ≤ 2)
    {v : EReal} (hv : y ≤ v) : (m = v ∨ m' = v) ↔ ∃ k, a k = v := by
  classical
  constructor
  · rintro (rfl | rfl)
    · exact h.mem
    · rcases h.mem' with e | ⟨k, e, _⟩
      · rw [e] at hv; exact absurd (lt_of_lt_of_le hy hv) (lt_irrefl _)
      · exact ⟨k, e⟩
  · rintro ⟨k, rfl⟩
    by_cases e : a k = m
    · exact .inl e.symm
    · refine .inr (by_contra fun e' => ?_)
      have hlt : a k < m' := lt_of_le_of_ne (h.le' k e) (Ne.symm e')
      rcases h.mem' with e2 | ⟨k2, e2, ne2⟩
      · rw [e2] at hlt; exact absurd hlt not_lt_bot
      · obtain ⟨k1, e1⟩ := h.mem
        have h1 : y ≤ a k1 := e1 ▸ le_trans hv (h.le k)
        have h2 : y ≤ a k2 := e2 ▸ le_trans hv hlt.le
        have n12 : k2 ≠ k1 := fun c => ne2 (by rw [← e2, c, e1])
        have n1 : k ≠ k1 := fun c => e (by rw [c, e1])
        have n2 : k ≠ k2 := fun c => by rw [c, e2] at hlt; exact lt_irrefl _ hlt
        have hsub : ({k, k1, k2} : Finset ι) ⊆ univ.filter fun k => y ≤ a k := by
          intro i hi
          simp only [mem_insert, mem_singleton] at hi
          rcases hi with rfl | rfl | rfl <;> simp [hv, h1, h2]
        have h3 := card_le_card hsub
        rw [card_insert_of_notMem (by simp [n1, n2]), card_insert_of_notMem (by simp [Ne.symm n12]), card_singleton] at h3
        unfold many at hc
        omega

/-- An entry reaches whatever the greatest value reaches. -/
theorem Two.many_pos {a : ι → EReal} {m m' : EReal} (h : Two a m m') {y : EReal} (hm : y ≤ m) : 0 < many a y := by
  classical
  obtain ⟨k, e⟩ := h.mem
  exact card_pos.mpr ⟨k, by simpa [e] using hm⟩

/-- Two entries reach whatever the second greatest value reaches. -/
theorem Two.one_lt_many {a : ι → EReal} {m m' : EReal} (h : Two a m m') {y : EReal} (hy : ⊥ < y) (hm : y ≤ m') :
    1 < many a y := by
  classical
  rcases h.mem' with e | ⟨k2, e2, ne2⟩
  · rw [e] at hm; exact absurd (lt_of_lt_of_le hy hm) (lt_irrefl _)
  · obtain ⟨k1, e1⟩ := h.mem
    have h2 : m' ≤ m := e2 ▸ h.le k2
    exact one_lt_card.mpr ⟨k1, by simpa [e1] using le_trans hm h2, k2, by simpa [e2] using hm,
      fun c => ne2 (by rw [← e2, ← e1, c])⟩

/-! ## The greatest values, one by one -/

/-- `m` is the greatest value of `a`. -/
structure Peak (a : ι → EReal) (m : EReal) : Prop where
  le : ∀ k, a k ≤ m
  mem : ∃ k, a k = m

/-- The greatest value reaches `y` when there is a value that does. -/
theorem Peak.le_iff {a : ι → EReal} {m : EReal} (h : Peak a m) (y : EReal) : y ≤ m ↔ 0 < (values a y).card := by
  rw [card_pos]
  constructor
  · intro hy
    obtain ⟨k, e⟩ := h.mem
    exact ⟨m, mem_values.mpr ⟨hy, k, e⟩⟩
  · rintro ⟨v, hv⟩
    obtain ⟨hy, k, rfl⟩ := mem_values.mp hv
    exact le_trans hy (h.le k)

/-- With its greatest value put to the least extended real a family has one value fewer that reaches `y`. -/
theorem Peak.lt_card {a a' : ι → EReal} {m : EReal} (h : Peak a m) (ha : ∀ k, a' k = if a k = m then ⊥ else a k)
    {y : EReal} (hy : ⊥ < y) (i : ℕ) : i < (values a' y).card ↔ i + 1 < (values a y).card := by
  classical
  have e : values a' y = (values a y).erase m := by
    ext v
    rw [mem_erase, mem_values, mem_values]
    constructor
    · rintro ⟨hv, k, e⟩
      rw [ha] at e
      split at e
      · rw [← e] at hv; exact absurd (lt_of_lt_of_le hy hv) (lt_irrefl _)
      · next ne => exact ⟨e ▸ ne, hv, k, e⟩
    · rintro ⟨ne, hv, k, e⟩
      exact ⟨hv, k, by rw [ha, if_neg (e ▸ ne), e]⟩
  rw [e]
  by_cases hm : m ∈ values a y
  · rw [card_erase_of_mem hm]; omega
  · have hlt : ¬ y ≤ m := fun c => hm (mem_values.mpr ⟨c, h.mem⟩)
    have h0 : (values a y).card = 0 := by
      by_contra c
      exact hlt ((h.le_iff y).mpr (Nat.pos_of_ne_zero c))
    rw [erase_eq_of_notMem hm, h0]
    omega

/-- The greatest values taken one by one: number `i` reaches `y` exactly when more than `i` values do. -/
theorem le_iff_lt_values {w : ℕ → ι → EReal} {p : ℕ → EReal} (hp : ∀ i, Peak (w i) (p i))
    (hw : ∀ i k, w (i + 1) k = if w i k = p i then ⊥ else w i k) {y : EReal} (hy : ⊥ < y) (i : ℕ) :
    y ≤ p i ↔ i < (values (w 0) y).card := by
  have step : ∀ i j, j < (values (w i) y).card ↔ j + i < (values (w 0) y).card := by
    intro i
    induction i with
    | zero => exact fun j => Iff.rfl
    | succ i ih =>
      intro j
      rw [(hp i).lt_card (hw i) hy j, ih]
      omega
  rw [(hp i).le_iff, step i 0, Nat.zero_add]

end Cert.TopK
-- ==== Proof.Reads.lean ====
/- The kernel's vectors on the extended reals, row by row: what the lanes, the buckets and the peaks hold. -/
module

public import Idealize.ShloMosaic.Lib.ValueIdxCore
public import Idealize.ShloMosaic.Lib.Pipeline.Value
public import Idealize.ShloMosaic.PureOps.Reduce
public import proofs.«01_k».proof.Proof.Values
public import proofs.«01_k».proof.Proof.Order

@[expose] public section

noncomputable section

namespace Cert.TopK

open Idealize.ShloMosaic Idealize.ShloMosaic.ValueIdx Cert.KernelIdeal

/-! ## Folds of maxima -/

theorem foldl_max_le {β : Type} (g : β → EReal) (l : List β) (init : EReal) :
    init ≤ l.foldl (fun r n => max r (g n)) init ∧ ∀ n ∈ l, g n ≤ l.foldl (fun r n => max r (g n)) init := by
  induction l generalizing init with
  | nil => exact ⟨le_rfl, fun _ h => absurd h List.not_mem_nil⟩
  | cons b l ih =>
    obtain ⟨h1, h2⟩ := ih (max init (g b))
    refine ⟨(le_max_left _ _).trans h1, fun n hn => ?_⟩
    rcases List.mem_cons.mp hn with rfl | hn
    · exact (le_max_right _ _).trans h1
    · exact h2 n hn

theorem foldl_max_mem {β : Type} (g : β → EReal) (l : List β) (init : EReal) :
    l.foldl (fun r n => max r (g n)) init = init ∨ ∃ n ∈ l, l.foldl (fun r n => max r (g n)) init = g n := by
  induction l generalizing init with
  | nil => exact .inl rfl
  | cons b l ih =>
    rcases ih (max init (g b)) with h | ⟨n, hn, h⟩
    · rcases max_choice init (g b) with e | e
      · exact .inl (h.trans e)
      · exact .inr ⟨b, List.mem_cons_self, h.trans e⟩
    · exact .inr ⟨n, List.mem_cons_of_mem _ hn, h⟩

/-! ## Elementwise operations -/

theorem neg_inf : (FloatOps.ofBits .f32 0xFF800000#32 : Ideal .f32) = (⊥ : EReal) := by
  show Ideal.ofBits .f32 0xFF800000#32 = ⊥
  simp [Ideal.ofBits, Ideal.ieee]

variable {s : Shape}

theorem erase_apply (m v : FVec Ideal s .f32) (j : s.Idx) : erase m v j = if v j = m j then (⊥ : EReal) else v j := by
  show Scalar.select (BitVec.ofBool (decide (v j = m j))) (FloatOps.ofBits .f32 0xFF800000#32 : Ideal .f32) (v j) = _
  rw [neg_inf]
  by_cases h : v j = m j <;> simp [Scalar.select, h]

theorem maxes_apply (c : FVec Ideal s .f32) (cs : List (FVec Ideal s .f32)) (j : s.Idx) :
    maxes c cs j = cs.foldl (fun (r : EReal) v => max r (v j)) (c j) := by
  induction cs generalizing c with
  | nil => rfl
  | cons b cs ih => exact ih (maximumf c b)

/-- The folded maximum and the folded maximum with the first put away are the two greatest values of the vectors' entries at a place. -/
theorem two_of_maxes (c : FVec Ideal s .f32) (cs : List (FVec Ideal s .f32)) (j : s.Idx) {n : ℕ} (f : Fin n → FVec Ideal s .f32)
    (hf : c :: cs = List.ofFn f) : Two (fun k => (f k j : EReal)) (maxes c cs j) (nexts (maxes c cs) c cs j) := by
  have hm : ∀ v, v ∈ c :: cs ↔ ∃ k, f k = v := fun v => by rw [hf, List.mem_ofFn]
  have hle : ∀ v ∈ c :: cs, (v j : EReal) ≤ maxes c cs j := by
    intro v hv
    rw [maxes_apply]
    rcases List.mem_cons.mp hv with rfl | hv
    · exact (foldl_max_le (fun v : FVec Ideal s .f32 => (v j : EReal)) cs _).1
    · exact (foldl_max_le (fun v : FVec Ideal s .f32 => (v j : EReal)) cs _).2 v hv
  have hn : nexts (maxes c cs) c cs j
      = cs.foldl (fun (r : EReal) v => max r (erase (maxes c cs) v j)) (erase (maxes c cs) c j) := by
    unfold nexts
    rw [maxes_apply, List.foldl_map]
  refine ⟨fun k => hle _ ((hm _).mpr ⟨k, rfl⟩), ?_, fun k hk => ?_, ?_⟩
  · rw [maxes_apply]
    rcases foldl_max_mem (fun v : FVec Ideal s .f32 => (v j : EReal)) cs (c j) with h | ⟨v, hv, h⟩
    · obtain ⟨k, e⟩ := (hm c).mp List.mem_cons_self
      exact ⟨k, by rw [h, e]⟩
    · obtain ⟨k, e⟩ := (hm v).mp (List.mem_cons_of_mem _ hv)
      exact ⟨k, by rw [h, e]⟩
  · have e : (f k j : EReal) = erase (maxes c cs) (f k) j := by rw [erase_apply, if_neg hk]
    rw [hn, e]
    rcases List.mem_cons.mp ((hm _).mpr ⟨k, rfl⟩) with h | h
    · rw [h]
      exact (foldl_max_le (fun v : FVec Ideal s .f32 => (erase (maxes c cs) v j : EReal)) cs _).1
    · exact (foldl_max_le (fun v : FVec Ideal s .f32 => (erase (maxes c cs) v j : EReal)) cs _).2 _ h
  · have key : ∀ v ∈ c :: cs, nexts (maxes c cs) c cs j = erase (maxes c cs) v j →
        (nexts (maxes c cs) c cs j : EReal) = ⊥ ∨ ∃ k, (f k j : EReal) = nexts (maxes c cs) c cs j
          ∧ (nexts (maxes c cs) c cs j : EReal) ≠ maxes c cs j := by
      intro v hv e
      rw [erase_apply] at e
      split at e
      · exact .inl e
      · next ne =>
        obtain ⟨k, ek⟩ := (hm v).mp hv
        exact .inr ⟨k, by rw [ek, e], by rw [e]; exact ne⟩
    rcases foldl_max_mem (fun v : FVec Ideal s .f32 => (erase (maxes c cs) v j : EReal)) cs (erase (maxes c cs) c j) with
      h | ⟨v, hv, h⟩
    · exact key c List.mem_cons_self (hn.trans h)
    · exact key v (List.mem_cons_of_mem _ hv) (hn.trans h)

/-! ## Two pieces along the columns -/

/-- Two pieces side by side, read at a column. -/
theorem pair_cols {R p q n : ℕ} (x : FVec Ideal ⟨2, ![R, p]⟩ .f32) (y : FVec Ideal ⟨2, ![R, q]⟩ .f32)
    (h : Shape.Concatenates [⟨2, ![R, p]⟩, ⟨2, ![R, q]⟩] ⟨2, ![R, n]⟩ 1) (r : Fin R) (k : Fin n) :
    (∀ hk : k.val < p, pair ⟨2, ![R, n]⟩ 1 x y h (ix2 r k) = x (ix2 r ⟨k.val, hk⟩))
      ∧ ∀ k' : Fin q, k'.val + p = k.val → pair ⟨2, ![R, n]⟩ 1 x y h (ix2 r k) = y (ix2 r k') := by
  constructor
  · intro hk
    exact concatenate_pair_apply_left 1 x y h (ix2 r k) rfl (ix2 r ⟨k.val, hk⟩)
      (fun b => by match b with | ⟨0, _⟩ => rfl | ⟨1, _⟩ => rfl)
  · intro k' hk
    exact concatenate_pair_apply_right 1 x y h (ix2 r k) rfl rfl (ix2 r k')
      (fun b hb => by match b with | ⟨0, _⟩ => rfl | ⟨1, _⟩ => exact absurd rfl hb) hk

/-- Two pieces one under the other, read at a row. -/
theorem pair_rows {R R' N n : ℕ} (x : FVec Ideal ⟨2, ![R, n]⟩ .f32) (y : FVec Ideal ⟨2, ![R', n]⟩ .f32)
    (h : Shape.Concatenates [⟨2, ![R, n]⟩, ⟨2, ![R', n]⟩] ⟨2, ![N, n]⟩ 0) (r : Fin N) (k : Fin n) :
    (∀ hr : r.val < R, pair ⟨2, ![N, n]⟩ 0 x y h (ix2 r k) = x (ix2 ⟨r.val, hr⟩ k))
      ∧ ∀ r' : Fin R', r'.val + R = r.val → pair ⟨2, ![N, n]⟩ 0 x y h (ix2 r k) = y (ix2 r' k) := by
  constructor
  · intro hr
    exact concatenate_pair_apply_left 0 x y h (ix2 r k) rfl (ix2 ⟨r.val, hr⟩ k)
      (fun b => by match b with | ⟨0, _⟩ => rfl | ⟨1, _⟩ => rfl)
  · intro r' hr
    exact concatenate_pair_apply_right 0 x y h (ix2 r k) rfl rfl (ix2 r' k)
      (fun b hb => by match b with | ⟨0, _⟩ => exact absurd rfl hb | ⟨1, _⟩ => rfl) hr

/-- A run of columns, read at a column. -/
theorem slice_cols {R p n : ℕ} (o : ℕ) (x : FVec Ideal ⟨2, ![R, n]⟩ .f32)
    (h : Shape.Slices ⟨2, ![R, n]⟩ ![0, o] ⟨2, ![R, p]⟩) (r : Fin R) (k : Fin p) (k' : Fin n) (hk : k'.val = o + k.val) :
    extractStridedSlice ⟨2, ![R, p]⟩ ![0, o] x h (ix2 r k) = x (ix2 r k') :=
  extractStridedSlice_apply ![0, o] x h (ix2 r k) (ix2 r k') fun a => by
    match a with | ⟨0, _⟩ => exact (Nat.zero_add _).symm | ⟨1, _⟩ => exact hk

/-! ## Lanes and buckets -/

/-- The `k`-th of a lane's sixteen entries in a row. -/
def laneAt (w : Fin 8192 → EReal) (l : Fin 512) (k : Fin 16) : EReal := w ⟨512 * k.val + l.val, by omega⟩

/-- A row of a block. -/
abbrev row {R n : ℕ} (v : FVec Ideal ⟨2, ![R, n]⟩ .f32) (r : Fin R) : Fin n → EReal := fun c => v (ix2 r c)

theorem run_slices (k : Fin 16) : S128x8192.Slices ![0, 512 * k.val] S128x512 := by revert k; decide

/-- The first and second of a lane are its two greatest values. -/
theorem two_lane (v : FVec Ideal S128x8192 .f32) (r : Fin 128) (l : Fin 512) :
    Two (laneAt (row v r) l) (first v (ix2 r l)) (second v (ix2 r l)) := by
  have h := two_of_maxes (run v 0) (runs v) (ix2 r l) (fun k : Fin 16 => run v k.val (run_slices k)) rfl
  have e : (fun k : Fin 16 => (run v k.val (run_slices k) (ix2 r l) : EReal)) = laneAt (row v r) l :=
    funext fun k => slice_cols (512 * k.val) v (run_slices k) r l _ rfl
  rw [e] at h
  exact h

/-- The second level's entry: a lane's first, or a lane's second turned by 64 lanes. -/
theorem lanes_apply (v : FVec Ideal S128x8192 .f32) (r : Fin 128) (q : Fin 1024) (l : Fin 512)
    (hl : l.val = if q.val < 512 then q.val else (q.val - 64) % 512) :
    lanes v (ix2 r q) = if q.val < 512 then first v (ix2 r l) else second v (ix2 r l) := by
  unfold lanes
  by_cases h : q.val < 512
  · rw [if_pos h] at hl ⊢
    rw [(pair_cols _ _ _ r q).1 h]
    congr 2
    exact Fin.ext hl.symm
  · rw [if_neg h] at hl ⊢
    rw [(pair_cols _ _ _ r q).2 ⟨q.val - 512, by omega⟩ (by simp; omega)]
    unfold turned
    by_cases h' : q.val < 512 + 64
    · rw [(pair_cols _ _ _ r _).1 (by simp; omega)]
      exact slice_cols 448 _ _ r _ l (by simp; omega)
    · rw [(pair_cols _ _ _ r _).2 ⟨q.val - 576, by omega⟩ (by simp; omega)]
      exact slice_cols 0 _ _ r _ l (by simp; omega)

theorem group_slices (k : Fin 8) : S128x1024.Slices ![0, 128 * k.val] S128x128 := by revert k; decide

/-- The `k`-th of a bucket's eight entries in a row. -/
def bucketAt (w : Fin 1024 → EReal) (b : Fin 128) (k : Fin 8) : EReal := w ⟨128 * k.val + b.val, by omega⟩

/-- A row's candidates are its buckets' two greatest values. -/
theorem two_bucket (c : FVec Ideal S128x1024 .f32) (r : Fin 128) (b : Fin 128) :
    Two (bucketAt (row c r) b) (bests c (ix2 r ⟨b.val, by omega⟩)) (bests c (ix2 r ⟨b.val + 128, by omega⟩)) := by
  have h := two_of_maxes (group c 0) (groups c) (ix2 r b) (fun k : Fin 8 => group c k.val (group_slices k)) rfl
  have e : (fun k : Fin 8 => (group c k.val (group_slices k) (ix2 r b) : EReal)) = bucketAt (row c r) b :=
    funext fun k => slice_cols (128 * k.val) c (group_slices k) r b _ rfl
  rw [e] at h
  have e1 : bests c (ix2 r ⟨b.val, by omega⟩) = top c (ix2 r b) := (pair_cols _ _ _ r (n := 256) ⟨b.val, by omega⟩).1 b.isLt
  have e2 : bests c (ix2 r ⟨b.val + 128, by omega⟩) = nexts (top c) (group c 0) (groups c) (ix2 r b) :=
    (pair_cols _ _ _ r (n := 256) ⟨b.val + 128, by omega⟩).2 b rfl
  rw [e1, e2]
  exact h

/-! ## The peaks -/

/-- A row's peak is its greatest value. -/
theorem peak_row (v : FVec Ideal S256x256 .f32) (r : Fin 256) : Peak (row v r) (peak v (ix2 r 0)) := by
  have hd : ∀ i : S256x256.Idx, (show S256x256.Reduces [1] S256 by decide).drop i = ix1 r ↔ i 0 = r := by
    intro i
    constructor
    · intro h
      have := congrFun h 0
      exact Fin.ext (congrArg Fin.val this)
    · intro h
      funext b
      match b with | ⟨0, _⟩ => exact Fin.ext (congrArg Fin.val h)
  obtain ⟨l, hl, e⟩ : ∃ l : List (Fin S256x256.numel), (∀ n, n ∈ l ↔ S256x256.rowMajor.symm n 0 = r) ∧
      peak v (ix2 r 0) = l.foldl (fun (m : EReal) n => max m (v (S256x256.rowMajor.symm n))) (⊥ : EReal) := by
    refine ⟨(List.finRange S256x256.numel).filter fun n =>
      (show S256x256.Reduces [1] S256 by decide).drop (S256x256.rowMajor.symm n) = ix1 r, fun n => ?_, ?_⟩
    · rw [List.mem_filter, decide_eq_true_iff, hd]
      exact ⟨And.right, fun h => ⟨List.mem_finRange _, h⟩⟩
    · unfold peak
      rw [shapeCast_apply _ _ (ix2 r 0) (ix1 r) (by rw [Shape.rowMajor_val_one, Shape.rowMajor_val_two]; simp)]
      refine (congrFun (multiReduction_maximumf_eq_reduceFold v 0xFF800000#32 (by decide) (.inl rfl) rfl) (ix1 r)).trans ?_
      rw [neg_inf]
      rfl
  rw [e]
  have hle : ∀ c, row v r c ≤ l.foldl (fun (m : EReal) n => max m (v (S256x256.rowMajor.symm n))) (⊥ : EReal) := by
    intro c
    have h := (foldl_max_le (fun n => (v (S256x256.rowMajor.symm n) : EReal)) l (⊥ : EReal)).2 (S256x256.rowMajor (ix2 r c))
      ((hl _).mpr (by rw [Equiv.symm_apply_apply]))
    rw [Equiv.symm_apply_apply] at h
    exact h
  refine ⟨hle, ?_⟩
  rcases foldl_max_mem (fun n => (v (S256x256.rowMajor.symm n) : EReal)) l (⊥ : EReal) with h | ⟨n, hn, h⟩
  · refine ⟨0, ?_⟩
    have h0 := hle 0
    rw [h] at h0 ⊢
    exact le_bot_iff.mp h0
  · refine ⟨S256x256.rowMajor.symm n 1, ?_⟩
    rw [h]
    have e2 : ix2 r (S256x256.rowMajor.symm n 1) = S256x256.rowMajor.symm n := by
      rw [← (hl n).mp hn]
      exact (eq_ix2 _).symm
    exact congrArg v e2

/-- What is left of a row when its peak is put away. -/
theorem rest_row (v : FVec Ideal S256x256 .f32) (r c : Fin 256) :
    row (rest v) r c = if row v r c = (peak v (ix2 r 0) : EReal) then ⊥ else row v r c := by
  show rest v (ix2 r c) = _
  unfold rest
  rw [erase_apply, broadcastTo_apply (peak v) _ (ix2 r c) (ix2 r 0)]
  intro a
  match a with | ⟨0, _⟩ => rfl | ⟨1, _⟩ => rfl

/-- Number `i` of the peaks, as the concatenation reads it. -/
theorem peaks_get (n : ℕ) (v : FVec Ideal S256x256 .f32) (i : ℕ) (h : i < (peaks n v).length) :
    (peaks n v)[i] = ⟨S256x1, peak (rest^[i] v)⟩ := by
  induction n generalizing v i with
  | zero => exact absurd h (Nat.not_lt_zero _)
  | succ n ih =>
    cases i with
    | zero => rfl
    | succ i => exact ih (rest v) i _

/-- Column `i` of the greatest values is the peak of what the peaks before it leave. -/
theorem greatest_apply (v : FVec Ideal S256x256 .f32) (r : Fin 256) (i : Fin 32) :
    greatest v (ix2 r i) = peak (rest^[i.val] v) (ix2 r 0) := by
  have hl : (peaks 32 v).length = 32 := by rw [← List.length_map (f := (·.1)), peaks_shapes, List.length_replicate]
  unfold greatest
  refine concatenate_apply_piece 1 (peaks 32 v) _ (ix2 r i) i.val (by rw [hl]; exact i.isLt) S256x1 _ (peaks_get 32 v i.val _)
    rfl i.val ?_ (ix2 r 0) (fun b hb => by match b with | ⟨0, _⟩ => rfl | ⟨1, _⟩ => exact absurd rfl hb) rfl
  rw [List.map_take, peaks_shapes, List.take_replicate, Nat.min_eq_left i.isLt.le, List.map_replicate, List.sum_replicate]
  simp

/-- Column `i` of the greatest values reaches `y` exactly when more than `i` of the row's values do. -/
theorem greatest_iff (v : FVec Ideal S256x256 .f32) (r : Fin 256) {y : EReal} (hy : ⊥ < y) (i : Fin 32) :
    y ≤ (greatest v (ix2 r i) : EReal) ↔ i.val < (values (row v r) y).card := by
  rw [greatest_apply]
  exact le_iff_lt_values (w := fun i => row (rest^[i] v) r) (p := fun i => peak (rest^[i] v) (ix2 r 0))
    (fun i => peak_row _ r) (fun i k => by rw [Function.iterate_succ_apply']; exact rest_row _ r k) hy i.val

end Cert.TopK
-- ==== Proof.Half.lean ====
/- A device's list of one row: where no more than two entries of a lane and of a bucket reach a threshold, and equal
   entries do not, the list's entries that reach it are as many as the row's. -/
module

public import proofs.«01_k».proof.Proof.Reads

@[expose] public section

noncomputable section

namespace Cert.TopK

open Idealize.ShloMosaic Idealize.ShloMosaic.ValueIdx Cert.KernelIdeal

/-- The lane whose value the second level takes at place `q`. -/
def laneOf (q : Fin 1024) : Fin 512 := ⟨if q.val < 512 then q.val else (q.val - 64) % 512, by split <;> omega⟩

/-- The second level's values, of lanes each sorted in ascending order. -/
def level (S : Fin 512 → Fin 16 → EReal) (q : Fin 1024) : EReal := if q.val < 512 then S (laneOf q) 15 else S (laneOf q) 14

/-- At the threshold `y` the kernel loses nothing of the half row `w`: no more than two entries of any lane and of any
    bucket reach it, and no two of the entries that do are equal. -/
structure Kept (w : Fin 8192 → EReal) (y : EReal) : Prop where
  lane : ∀ l, many (laneAt w l) y ≤ 2
  bucket : ∃ S : Fin 512 → Fin 16 → EReal, (∀ l, Monotone (S l) ∧ many (S l) y = many (laneAt w l) y) ∧
    ∀ b, many (bucketAt (level S) b) y ≤ 2
  distinct : ∀ j k, y ≤ w j → w j = w k → j = k

/-- Where the kernel's second level reaches `y`, the sorted lanes' does. -/
theorem le_level {v : FVec Ideal S128x8192 .f32} {r : Fin 128} {y : EReal} (hy : ⊥ < y) {S : Fin 512 → Fin 16 → EReal}
    (hS : ∀ l, Monotone (S l) ∧ many (S l) y = many (laneAt (row v r) l) y) (q : Fin 1024)
    (h : y ≤ (lanes v (ix2 r q) : EReal)) : y ≤ level S q := by
  rw [lanes_apply v r q (laneOf q) rfl] at h
  obtain ⟨hm, he⟩ := hS (laneOf q)
  unfold level
  by_cases c : q.val < 512
  · rw [if_pos c] at h ⊢
    refine le_of_many hm 15 y ?_
    rw [he]
    exact (two_lane v r (laneOf q)).many_pos h
  · rw [if_neg c] at h ⊢
    refine le_of_many hm 14 y ?_
    rw [he]
    exact (two_lane v r (laneOf q)).one_lt_many hy h

/-- The candidates of a row have the row's values that reach `y`. -/
theorem values_bests (v : FVec Ideal S128x8192 .f32) (r : Fin 128) {y : EReal} (hy : ⊥ < y) (h : Kept (row v r) y) :
    values (row (bests (lanes v)) r) y = values (row v r) y := by
  obtain ⟨S, hS, hb⟩ := h.bucket
  have hb' : ∀ b, many (bucketAt (row (lanes v) r) b) y ≤ 2 := fun b =>
    (many_mono fun k hk => le_level hy hS _ hk).trans (hb b)
  ext t
  rw [mem_values, mem_values]
  refine and_congr_right fun ht => ?_
  have e1 : (∃ k, row (bests (lanes v)) r k = t) ↔ ∃ b k, bucketAt (row (lanes v) r) b k = t := by
    constructor
    · rintro ⟨k, hk⟩
      by_cases c : k.val < 128
      · exact ⟨⟨k.val, c⟩, ((two_bucket (lanes v) r ⟨k.val, c⟩).iff hy (hb' _) ht).mp (.inl hk)⟩
      · refine ⟨⟨k.val - 128, by omega⟩, ((two_bucket (lanes v) r ⟨k.val - 128, by omega⟩).iff hy (hb' _) ht).mp (.inr ?_)⟩
        rw [← hk]
        congr 2
        exact Fin.ext (by simp; omega)
    · rintro ⟨b, hk⟩
      rcases ((two_bucket (lanes v) r b).iff hy (hb' _) ht).mpr hk with h | h
      · exact ⟨_, h⟩
      · exact ⟨_, h⟩
  have e2 : (∃ b k, bucketAt (row (lanes v) r) b k = t) ↔ ∃ q, row (lanes v) r q = t := by
    constructor
    · rintro ⟨b, k, hk⟩
      exact ⟨_, hk⟩
    · rintro ⟨q, hq⟩
      refine ⟨⟨q.val % 128, Nat.mod_lt _ (by decide)⟩, ⟨q.val / 128, by omega⟩, ?_⟩
      rw [← hq]
      unfold bucketAt
      congr 1
      exact Fin.ext (by simp; omega)
  have e3 : (∃ q, row (lanes v) r q = t) ↔ ∃ l k, laneAt (row v r) l k = t := by
    constructor
    · rintro ⟨q, hq⟩
      refine ⟨laneOf q, ((two_lane v r (laneOf q)).iff hy (h.lane _) ht).mp ?_⟩
      rw [show row (lanes v) r q = lanes v (ix2 r q) from rfl, lanes_apply v r q (laneOf q) rfl] at hq
      split at hq
      · exact .inl hq
      · exact .inr hq
    · rintro ⟨l, hk⟩
      have hl := l.isLt
      rcases ((two_lane v r l).iff hy (h.lane _) ht).mpr hk with h | h
      · refine ⟨⟨l.val, by omega⟩, ?_⟩
        rw [show row (lanes v) r _ = lanes v (ix2 r _) from rfl, lanes_apply v r _ l (by simp [hl]), if_pos hl]
        exact h
      · refine ⟨⟨512 + (l.val + 64) % 512, by omega⟩, ?_⟩
        rw [show row (lanes v) r _ = lanes v (ix2 r _) from rfl, lanes_apply v r _ l (by simp; omega), if_neg (by simp)]
        exact h
  have e4 : (∃ l k, laneAt (row v r) l k = t) ↔ ∃ c, row v r c = t := by
    constructor
    · rintro ⟨l, k, hk⟩
      exact ⟨_, hk⟩
    · rintro ⟨c, hc⟩
      refine ⟨⟨c.val % 512, Nat.mod_lt _ (by decide)⟩, ⟨c.val / 512, by omega⟩, ?_⟩
      rw [← hc]
      unfold laneAt
      congr 1
      exact Fin.ext (by simp; omega)
  exact e1.trans (e2.trans (e3.trans e4))

/-- Column `i` of a device's list reaches `y` exactly when more than `i` of the half row's entries do. -/
theorem list_iff (v v' : FVec Ideal S128x8192 .f32) (r : Fin 256) (w : Fin 8192 → EReal)
    (hw : (∀ h : r.val < 128, row v ⟨r.val, h⟩ = w) ∧ ∀ r' : Fin 128, r'.val + 128 = r.val → row v' r' = w)
    {y : EReal} (hy : ⊥ < y) (hk : Kept w y) (i : Fin 32) :
    y ≤ (greatest (candidates v v') (ix2 r i) : EReal) ↔ i.val < many w y := by
  rw [greatest_iff _ r hy i, ← card_values hk.distinct]
  suffices e : values (row (candidates v v') r) y = values w y by rw [e]
  by_cases c : r.val < 128
  · have e : row (candidates v v') r = row (bests (lanes v)) ⟨r.val, c⟩ := funext fun k => (pair_rows _ _ _ r k).1 c
    rw [e, ← hw.1 c]
    exact values_bests v _ hy (by rw [hw.1 c]; exact hk)
  · have hr : (⟨r.val - 128, by omega⟩ : Fin 128).val + 128 = r.val := by simp; omega
    have e : row (candidates v v') r = row (bests (lanes v')) ⟨r.val - 128, by omega⟩ :=
      funext fun k => (pair_rows _ _ _ r k).2 _ hr
    rw [e, ← hw.2 _ hr]
    exact values_bests v' _ hy (by rw [hw.2 _ hr]; exact hk)

end Cert.TopK
-- ==== Proof.Sorts.lean ====
/- What a sort leaves along its axis, on the extended reals: a rearrangement of the fiber, in ascending order of the keys. -/
module

public import Idealize.ShloMosaic.PureOps
public import Idealize.ShloMosaic.PureOps.Ideal
public import Idealize.ShloMosaic.Lib.SortFacts
public import proofs.«01_k».proof.Defs

@[expose] public section

noncomputable section

namespace Cert.TopK

open Idealize.ShloMosaic

/-- A comparator that puts the entry with the smaller key first. -/
def ByKey {α : Type} (key : α → EReal) (cmp : α → α → BitVec 1) : Prop := ∀ a b, cmp a b = 1#1 ↔ key a < key b

/-- A fiber sorted by a key is a rearrangement of it with ascending keys. -/
theorem sorted_fiber {α : Type} {key : α → EReal} {cmp : α → α → BitVec 1} (hc : ByKey key cmp) {n : ℕ} (f : Fin n → α) :
    Function.Bijective (sortedFrom fun k k' => cmp (f k) (f k') == 1#1)
      ∧ Monotone fun k => key (f (sortedFrom (fun k k' => cmp (f k) (f k') == 1#1) k)) := by
  have hf : ∀ a b, (cmp (f a) (f b) == 1#1) = false ↔ key (f b) ≤ key (f a) := by
    intro a b
    rw [← not_lt, ← hc]
    simp
  refine ⟨⟨sortedFrom_injective _, sortedFrom_surjective _⟩, fun i j hij => ?_⟩
  rcases eq_or_lt_of_le hij with rfl | hlt
  · exact le_rfl
  · refine (hf _ _).mp (sortedFrom_noInversion (fun k k' => cmp (f k) (f k') == 1#1) _ ?_ (fun _ _ h => h) ?_ i j hlt)
    · intro a b h
      rw [hf]
      exact le_of_lt ((hc _ _).mp (by simpa using h))
    · intro a b c h₁ h₂
      rw [hf] at *
      exact h₂.trans h₁

theorem along_along {s : Shape} (j : s.Idx) (d : Fin s.rank) (k k' : Fin (s.size d)) :
    (j.along d k).along d k' = j.along d k' := by
  unfold Shape.Idx.along
  exact Function.update_idem _ _ _

theorem along_self {s : Shape} (j : s.Idx) (d : Fin s.rank) (k : Fin (s.size d)) : (j.along d k) d = k := by
  unfold Shape.Idx.along
  exact Function.update_self _ _ _

/-- A vector sorted along an axis, read along that axis. -/
theorem sort_along {s : Shape} (d : Nat) (hd : d < s.rank) {cmp : EReal → EReal → BitVec 1} (hc : ByKey id cmp)
    (x : s.Idx → EReal) (j : s.Idx) :
    ∃ e : Fin (s.size ⟨d, hd⟩) ≃ Fin (s.size ⟨d, hd⟩),
      (∀ k, Host.sort s d cmp x (j.along ⟨d, hd⟩ k) = x (j.along ⟨d, hd⟩ (e k)))
        ∧ Monotone fun k => Host.sort s d cmp x (j.along ⟨d, hd⟩ k) := by
  have h := sorted_fiber hc fun k => x (j.along ⟨d, hd⟩ k)
  have hr : ∀ k, Host.sort s d cmp x (j.along ⟨d, hd⟩ k) = x (j.along ⟨d, hd⟩
      (sortedFrom (fun k k' => cmp (x (j.along ⟨d, hd⟩ k)) (x (j.along ⟨d, hd⟩ k')) == 1#1) k)) := by
    intro k
    unfold Host.sort
    rw [dif_pos hd]
    simp only [along_along, along_self]
  refine ⟨Equiv.ofBijective _ h.1, hr, ?_⟩
  simp only [hr]
  exact h.2

/-- The second result of a sort of a vector that carries a second one, read along its axis. -/
theorem sort2_along {s : Shape} (d : Nat) (hd : d < s.rank) {α : Type} {cmp : EReal × α → EReal × α → BitVec 1}
    (hc : ByKey Prod.fst cmp) (x : s.Idx → EReal) (z : s.Idx → α) (j : s.Idx) :
    ∃ e : Fin (s.size ⟨d, hd⟩) ≃ Fin (s.size ⟨d, hd⟩),
      (∀ k, (Host.sort2 s d cmp x z).2 (j.along ⟨d, hd⟩ k) = z (j.along ⟨d, hd⟩ (e k)))
        ∧ Monotone fun k => x (j.along ⟨d, hd⟩ (e k)) := by
  have h := sorted_fiber hc fun k => (x (j.along ⟨d, hd⟩ k), z (j.along ⟨d, hd⟩ k))
  refine ⟨Equiv.ofBijective _ h.1, fun k => ?_, h.2⟩
  unfold Host.sort2
  rw [dif_pos hd]
  simp only [along_along, along_self]
  rfl

theorem cmp_une_self (x : EReal) : FloatOps.cmpf (F := Ideal) (φ := .f32) .une x x = 0#1 := by
  show Ideal.cmp .une x x = 0#1
  simp [Ideal.cmp]

/-- Put a key that equals zero to zero and it is the same key. -/
theorem select_zero (x : EReal) : Scalar.select (FloatOps.cmpf (F := Ideal) (φ := .f32) .oeq x
    (FloatOps.ofBits .f32 0x00000000#32)) (FloatOps.ofBits .f32 0x00000000#32 : Ideal .f32) x = x := by
  generalize (FloatOps.ofBits .f32 0x00000000#32 : Ideal .f32) = z
  show Scalar.select (BitVec.ofBool (decide (x = z))) z x = x
  by_cases h : x = z
  · subst h; unfold Scalar.select; split <;> rfl
  · simp [Scalar.select, h]

theorem cmp_lt (x y : EReal) : FloatOps.cmpfTotal (F := Ideal) (φ := .f32) .lt x y = 1#1 ↔ x < y := by
  show BitVec.ofBool (decide (x < y)) = 1#1 ↔ _
  by_cases h : x < y <;> simp [h]

theorem select_none (c d : EReal) : Scalar.select (0#1) c d = d := by
  simp [Scalar.select]

theorem byKey_mask : ByKey id (Cert.On_recovered.comparator_f32_d2 (F := Ideal)) := by
  intro a b
  unfold Cert.On_recovered.comparator_f32_d2
  simp only [select_zero, cmp_une_self, id]
  exact cmp_lt _ _

theorem byKey_mask2 : ByKey Prod.fst (Cert.On_recovered.comparator_f32_i32_d1 (F := Ideal)) := by
  intro a b
  unfold Cert.On_recovered.comparator_f32_i32_d1
  simp only [select_zero, cmp_une_self]
  exact cmp_lt _ _

theorem byKey_reference : ByKey Prod.fst (Cert.ReferenceIdeal.comparator_f32_i32_d1 (F := Ideal)) := by
  intro a b
  unfold Cert.ReferenceIdeal.comparator_f32_i32_d1
  simp only [select_zero, cmp_une_self]
  exact cmp_lt _ _

end Cert.TopK
-- ==== Proof.Ref.lean ====
/- What the reference computes: column `i` of a row of its result reaches a threshold exactly when more than `i` of the
   row's entries do. -/
module

public import proofs.«01_k».proof.Proof.Reads
public import proofs.«01_k».proof.Proof.Sorts
public import Idealize.ShloMosaic.Lib.ReduceAll

@[expose] public section

noncomputable section

namespace Cert.TopK

open Idealize.ShloMosaic Idealize.ShloMosaic.ValueIdx

/-- Dimension numbers that take, in each row of an `N` by `C` operand, the entries at `B` columns of that row. -/
abbrev alongDims (N C B : Nat)
    (wf : GatherDims.WF ⟨2, ![N, C]⟩ ⟨3, ![N, B, 1]⟩ ⟨2, ![N, B]⟩ [] [1] [0] [1] [0] 2 ![1, 1]) :
    GatherDims ⟨2, ![N, C]⟩ ⟨3, ![N, B, 1]⟩ ⟨2, ![N, B]⟩ :=
  ⟨[], [1], [0], [0], [1], 2, ![1, 1], wf⟩

/-- Such a take, read at an entry whose column number is in range. -/
theorem along_apply {α : Type} {N C B w : Nat}
    (wf : GatherDims.WF ⟨2, ![N, C]⟩ ⟨3, ![N, B, 1]⟩ ⟨2, ![N, B]⟩ [] [1] [0] [1] [0] 2 ![1, 1])
    (x : (⟨2, ![N, C]⟩ : Shape).Idx → α) (idx : IVec ⟨3, ![N, B, 1]⟩ w) (r : Fin N) (i : Fin B) (k : Fin C)
    (hk : (idx (ix3 r i 0)).toInt = k.val) : Host.gather (alongDims N C B wf) x idx (ix2 r i) = x (ix2 r k) := by
  unfold Host.gather
  refine congrArg x (funext fun a => Fin.ext ?_)
  show (alongDims N C B wf).start (ix2 r i) idx a + (alongDims N C B wf).batchCoord (ix2 r i) a
      + (alongDims N C B wf).offCoord (ix2 r i) a = _
  match a with
  | ⟨0, _⟩ =>
    have h0 : (0 : Fin 2) ∈ (alongDims N C B wf).operandBatchingDims := List.mem_singleton.mpr rfl
    rw [show (⟨0, _⟩ : Fin 2) = 0 from rfl, GatherDims.start_batching _ _ _ _ h0,
      GatherDims.offCoord_eq_zero _ _ _ fun h => ((GatherDims.mem_sKept _ _).mp h).2 h0]
    unfold GatherDims.batchCoord
    rw [dif_pos h0, Nat.zero_add, Nat.add_zero]
    rfl
  | ⟨1, _⟩ =>
    have h1 : (1 : Fin 2) ∈ (alongDims N C B wf).startIndexMap := List.mem_singleton.mpr rfl
    rw [show (⟨1, _⟩ : Fin 2) = 1 from rfl, GatherDims.batchCoord_eq_zero _ _ _ (fun h => by simp at h),
      GatherDims.offCoord_eq_zero _ _ _ fun h => ((GatherDims.mem_sKept _ _).mp h).1 (List.mem_singleton.mpr rfl)]
    unfold GatherDims.start
    rw [dif_pos h1]
    have e : (alongDims N C B wf).siIdx (ix2 r i) ⟨List.idxOf (1 : Fin 2) (alongDims N C B wf).startIndexMap,
        List.idxOf_lt_length_iff.2 h1⟩ = ix3 r i 0 := by
      funext b
      refine Fin.ext ?_
      match b with | ⟨0, _⟩ => rfl | ⟨1, _⟩ => rfl | ⟨2, _⟩ => rfl
    rw [e, hk]
    have := k.isLt
    show min ((k.val : ℤ).toNat) (C - 1) = k.val
    omega

theorem word_toInt {k : ℕ} (h : k < 16384) : (BitVec.ofNat 32 k).toInt = k := by
  rw [BitVec.toInt_eq_toNat_of_lt] <;> simp [BitVec.toNat_ofNat] <;> omega

theorem word_range {k : ℕ} (h : k < 16384) : IntOp.cmpi .slt (BitVec.ofNat 32 k) 0#32 = 0#1
    ∧ IntOp.cmpi .sge (BitVec.ofNat 32 k) 0#32 = 1#1 ∧ IntOp.cmpi .sle (BitVec.ofNat 32 k) 16383#32 = 1#1 := by
  have e := word_toInt h
  have c : ∀ b, b < 2 ^ 31 → (BitVec.ofNat 32 b).toInt = b := fun b hb => by
    rw [BitVec.toInt_eq_toNat_of_lt] <;> simp [BitVec.toNat_ofNat] <;> omega
  refine ⟨?_, ?_, ?_⟩ <;> simp only [IntOp.cmpi, BitVec.slt, BitVec.sle, e, c 0 (by decide), c 16383 (by decide)] <;>
    simp
  · rw [decide_eq_false (by omega)]; rfl
  · rw [decide_eq_true (by omega)]; rfl

variable [Cert.On_recovered.Facts]

open Cert.On_recovered

/-- Entries taken along a row at columns in range. -/
theorem take_along_apply (x : FVec Ideal S1024x16384 .f32) (idx : IVec S1024x32 32) (k : Fin 1024 → Fin 32 → Fin 16384)
    (hk : ∀ r i, idx (ix2 r i) = BitVec.ofNat 32 (k r i).val) (r : Fin 1024) (i : Fin 32) :
    fn_take_along_axis x idx (ix2 r i) = x (ix2 r (k r i)) := by
  unfold fn_take_along_axis
  generalize hv : shapeCast S1024x32x1 _ Facts.shapeCasts_S1024x32_S1024x32x1 = v
  have h5 : ∀ r i, v (ix3 r i 0) = BitVec.ofNat 32 (k r i).val := by
    intro r i
    rw [← hv]
    refine (shapeCast_apply _ _ _ (ix2 r i) ?_).trans ?_
    · rw [Shape.rowMajor_val_two, Shape.rowMajor_val_three]
      simp [ix2, ix3]
    · show Scalar.select (IntOp.cmpi .slt (idx (ix2 r i)) 0#32) _ (idx (ix2 r i)) = _
      rw [hk, (word_range (k r i).isLt).1]
      exact if_neg (by decide)
  have h12 : Host.reduce IntOp.andi (andi (cmpi .sge v (broadcastInDim S1024x32x1 ![] Facts.bcast_S_S1024x32x1 (constantI S_ 32 0#32)))
      (cmpi .sle v (broadcastInDim S1024x32x1 ![0, 1, 2] Facts.bcast_S1x1x1_S1024x32x1_0_1_2
        (broadcastInDim S1x1x1 ![2] Facts.bcast_S1_S1x1x1_2 (constantI S1 32 16383#32))))) (constantI S_ 1 1#1)
      Facts.reducesTo_S1024x32x1_S1024x32_d2 Facts.h_S_ (ix2 r i) = 1#1 := by
    refine Host.reduce_andi_one _ _ _ _ _ rfl fun j => ?_
    have ej : j = ix3 (j 0) (j 1) 0 := by
      funext b
      match b with
      | ⟨0, _⟩ => rfl
      | ⟨1, _⟩ => rfl
      | ⟨2, _⟩ => exact Subsingleton.elim (α := Fin 1) _ _
    have e := (congrArg v ej).trans (h5 (j 0) (j 1))
    show IntOp.andi (IntOp.cmpi .sge (v j) 0#32) (IntOp.cmpi .sle (v j) 16383#32) = 1#1
    obtain ⟨_, h1, h2⟩ := word_range (k (j 0) (j 1)).isLt
    rw [e, h1, h2]
    rfl
  have h13 : Host.gather gather_S1024x16384_S1024x32x1_S1024x32_n_1_0_0_1_2_11 x v (ix2 r i) = x (ix2 r (k r i)) :=
    along_apply Facts.gather_S1024x16384_S1024x32x1_S1024x32_n_1_0_0_1_2_11_wf x v r i (k r i) (by
      rw [h5]; exact word_toInt (k r i).isLt)
  refine Eq.trans ?_ h13
  show Scalar.select (Host.reduce _ _ _ _ _ (ix2 r i)) (Host.gather _ _ _ (ix2 r i)) _ = _
  rw [h12]
  simp [Scalar.select]

/-- The reference: the entries at the first columns of a stable sort of the negated row. -/
def best (x : FVec Ideal S1024x16384 .f32) : FVec Ideal S1024x32 .f32 :=
  fn_take_along_axis x (extractStridedSlice S1024x32 ![0, 0] (fn_argsort (F := Ideal) (Host.negf x))
    Facts.slices_S1024x16384_S1024x32_0_0)

theorem best_iff (x : FVec Ideal S1024x16384 .f32) (r : Fin 1024) (i : Fin 32) (y : EReal) :
    y ≤ (best x (ix2 r i) : EReal) ↔ i.val < many (fun c => (x (ix2 r c) : EReal)) y := by
  have hs : ∀ r : Fin 1024, ∃ e : Fin 16384 ≃ Fin 16384,
      (∀ k, fn_argsort (F := Ideal) (Host.negf x) (ix2 r k) = BitVec.ofNat 32 (e k).val)
        ∧ Antitone fun k => (x (ix2 r (e k)) : EReal) := by
    intro r
    have ha : ∀ k : Fin 16384, (ix2 r 0 : S1024x16384.Idx).along (⟨1, Nat.one_lt_two⟩ : Fin 2) k = ix2 r k := by
      intro k
      funext b
      match b with | ⟨0, _⟩ => rfl | ⟨1, _⟩ => rfl
    obtain ⟨e, h1, h2⟩ := sort2_along (s := S1024x16384) 1 (by decide) byKey_mask2 (Host.negf x)
      (iotaInDim S1024x16384 32 1) (ix2 r 0)
    refine ⟨e, fun k => ?_, fun a b hab => ?_⟩
    · exact (congrArg (fn_argsort (F := Ideal) (Host.negf x)) (ha k).symm).trans
        ((h1 k).trans (congrArg (iotaInDim S1024x16384 32 1) (ha (e k))))
    · have hn : ∀ k, Host.negf x (Shape.Idx.along (s := S1024x16384) (ix2 r 0) (⟨1, Nat.one_lt_two⟩ : Fin 2) (e k))
          = -(x (ix2 r (e k)) : EReal) := fun k => congrArg (Host.negf x) (ha (e k))
      have := (hn a).symm.trans_le ((h2 hab).trans_eq (hn b))
      exact EReal.neg_le_neg_iff.mp (show -(x (ix2 r (e a)) : EReal) ≤ -(x (ix2 r (e b)) : EReal) from this)
  choose e h1 h2 using hs
  have hb : best x (ix2 r i) = x (ix2 r (e r ⟨i.val, by omega⟩)) := by
    refine take_along_apply x _ (fun r i => e r ⟨i.val, by omega⟩) (fun r i => ?_) r i
    rw [← h1]
    exact extractStridedSlice_apply _ _ _ _ (ix2 r ⟨i.val, by omega⟩) fun a => by
      match a with | ⟨0, _⟩ => exact (Nat.zero_add _).symm | ⟨1, _⟩ => exact (Nat.zero_add _).symm
  rw [hb]
  refine (le_iff_lt_many (h2 r) ⟨i.val, by omega⟩ y).trans ?_
  rw [many_comp (fun c => (x (ix2 r c) : EReal)) (e r) y]

end Cert.TopK
-- ==== Proof.Mask.lean ====
/- What the mask says: where it holds, the reference's value is above everything that the kernel may lose of the row. -/
module

public import proofs.«01_k».proof.Proof.Half
public import proofs.«01_k».proof.Proof.Ref

@[expose] public section

noncomputable section

namespace Cert.TopK

open Idealize.ShloMosaic Idealize.ShloMosaic.ValueIdx Cert.On_recovered

/-- A maximum over two axes is no less than any of the entries. -/
theorem le_reduce {a b c : ℕ} (x : FVec Ideal ⟨3, ![a, b, c]⟩ .f32) (init : FVec Ideal S_ .f32)
    (h : Shape.ReducesTo ⟨3, ![a, b, c]⟩ [1, 2] ⟨1, ![a]⟩) (hu : 0 < S_.numel) (r : Fin a) (k : Fin b) (l : Fin c) :
    (x (ix3 r k l) : EReal) ≤ Host.reduce FloatOps.maximumf x init h hu (ix1 r) := by
  have hd : h.drop (ix3 r k l) = ix1 r := by
    funext b
    match b with | ⟨0, _⟩ => rfl
  unfold Host.reduce
  generalize hl : (List.filter _ _ : List (Fin (Shape.numel ⟨3, ![a, b, c]⟩))) = L
  have hm : (Shape.rowMajor ⟨3, ![a, b, c]⟩) (ix3 r k l) ∈ L := by
    rw [← hl, List.mem_filter, decide_eq_true_iff, Equiv.symm_apply_apply]
    exact ⟨List.mem_finRange _, hd⟩
  have := (foldl_max_le (fun n => (x ((Shape.rowMajor ⟨3, ![a, b, c]⟩).symm n) : EReal)) L (init (Shape.Idx.first hu))).2 _ hm
  rw [Equiv.symm_apply_apply] at this
  exact this

/-- Each of three arrays is no more than their maximum. -/
theorem le_max_three {s : Shape} (a b c : FVec Ideal s .f32) (j : s.Idx) : (a j : EReal) ≤ maximumf (maximumf a b) c j
    ∧ (b j : EReal) ≤ maximumf (maximumf a b) c j ∧ (c j : EReal) ≤ maximumf (maximumf a b) c j :=
  show (a j : EReal) ≤ max (max (a j) (b j)) (c j) ∧ (b j : EReal) ≤ max (max (a j) (b j)) (c j)
      ∧ (c j : EReal) ≤ max (max (a j) (b j)) (c j) from
    ⟨(le_max_left _ _).trans (le_max_left _ _), (le_max_right _ _).trans (le_max_left _ _), le_max_right _ _⟩

theorem lt_of_ogt {s : Shape} (a b : FVec Ideal s .f32) (j : s.Idx) (h : cmpf .ogt a b j = 1#1) : (b j : EReal) < a j := by
  have h' : BitVec.ofBool (decide ((b j : EReal) < a j)) = 1#1 := h
  by_contra hc
  rw [decide_eq_false hc] at h'
  exact absurd h' (by decide)

/-- The second array where two arrays agree, a third elsewhere. -/
theorem select_oeq {s : Shape} (a b c : FVec Ideal s .f32) (j : s.Idx) (h : (a j : EReal) = b j) :
    select (cmpf .oeq a b) b c j = b j := by
  show Scalar.select (BitVec.ofBool (decide ((a j : EReal) = b j))) (b j) (c j) = b j
  rw [decide_eq_true h]
  exact if_pos rfl

theorem two_lt (n : ℕ) : 2 < n + 3 := by omega

/-- An array of four axes sorted along the third, read along it. -/
theorem sort_four {a b c d : ℕ} (x : FVec Ideal ⟨4, ![a, b, c, d]⟩ .f32) {cmp : EReal → EReal → BitVec 1} (hc : ByKey id cmp)
    (r : Fin a) (h : Fin b) (k₀ : Fin c) (l : Fin d) : ∃ e : Fin c ≃ Fin c,
      (∀ k, (Host.sort ⟨4, ![a, b, c, d]⟩ 2 cmp x (ix4 r h k l) : EReal) = x (ix4 r h (e k) l))
        ∧ Monotone fun k => (Host.sort ⟨4, ![a, b, c, d]⟩ 2 cmp x (ix4 r h k l) : EReal) := by
  have ha : ∀ k : Fin c, Shape.Idx.along (s := ⟨4, ![a, b, c, d]⟩) (ix4 r h k₀ l) (⟨2, two_lt 1⟩ : Fin 4) k = ix4 r h k l := by
    intro k
    funext b
    match b with | ⟨0, _⟩ => rfl | ⟨1, _⟩ => rfl | ⟨2, _⟩ => rfl | ⟨3, _⟩ => rfl
  obtain ⟨e, h1, h2⟩ := sort_along (s := ⟨4, ![a, b, c, d]⟩) 2 (two_lt 1) hc x (ix4 r h k₀ l)
  exact ⟨e, fun k => (congrArg (Host.sort ⟨4, ![a, b, c, d]⟩ 2 cmp x) (ha k).symm).trans ((h1 k).trans (congrArg x (ha (e k)))),
    fun k k' hk => ((congrArg (Host.sort ⟨4, ![a, b, c, d]⟩ 2 cmp x) (ha k)).symm.trans_le (h2 hk)).trans_eq
      (congrArg (Host.sort ⟨4, ![a, b, c, d]⟩ 2 cmp x) (ha k'))⟩

/-- An array of three axes sorted along the last, read along it. -/
theorem sort_three {a b c : ℕ} (x : FVec Ideal ⟨3, ![a, b, c]⟩ .f32) {cmp : EReal → EReal → BitVec 1} (hc : ByKey id cmp)
    (r : Fin a) (h : Fin b) (k₀ : Fin c) : ∃ e : Fin c ≃ Fin c,
      (∀ k, (Host.sort ⟨3, ![a, b, c]⟩ 2 cmp x (ix3 r h k) : EReal) = x (ix3 r h (e k)))
        ∧ Monotone fun k => (Host.sort ⟨3, ![a, b, c]⟩ 2 cmp x (ix3 r h k) : EReal) := by
  have ha : ∀ k : Fin c, Shape.Idx.along (s := ⟨3, ![a, b, c]⟩) (ix3 r h k₀) (⟨2, two_lt 0⟩ : Fin 3) k = ix3 r h k := by
    intro k
    funext b
    match b with | ⟨0, _⟩ => rfl | ⟨1, _⟩ => rfl | ⟨2, _⟩ => rfl
  obtain ⟨e, h1, h2⟩ := sort_along (s := ⟨3, ![a, b, c]⟩) 2 (two_lt 0) hc x (ix3 r h k₀)
  exact ⟨e, fun k => (congrArg (Host.sort ⟨3, ![a, b, c]⟩ 2 cmp x) (ha k).symm).trans ((h1 k).trans (congrArg x (ha (e k)))),
    fun k k' hk => ((congrArg (Host.sort ⟨3, ![a, b, c]⟩ 2 cmp x) (ha k)).symm.trans_le (h2 hk)).trans_eq
      (congrArg (Host.sort ⟨3, ![a, b, c]⟩ 2 cmp x) (ha k'))⟩

/-- One plane of an array of four axes, read at an entry. -/
theorem plane_apply {a b c d : ℕ} (x : FVec Ideal ⟨4, ![a, b, c, d]⟩ .f32) (o : ℕ)
    (hs : Shape.Slices ⟨4, ![a, b, c, d]⟩ ![0, 0, o, 0] ⟨4, ![a, b, 1, d]⟩)
    (hc : Shape.ShapeCasts ⟨4, ![a, b, 1, d]⟩ ⟨3, ![a, b, d]⟩) (r : Fin a) (h : Fin b) (k : Fin c) (hk : k.val = o) (l : Fin d) :
    shapeCast ⟨3, ![a, b, d]⟩ (extractStridedSlice ⟨4, ![a, b, 1, d]⟩ ![0, 0, o, 0] x hs) hc (ix3 r h l) = x (ix4 r h k l) := by
  refine (shapeCast_apply _ hc (ix3 r h l) (ix4 r h 0 l) ?_).trans (extractStridedSlice_apply _ x hs _ _ fun a => ?_)
  · rw [Shape.rowMajor_val_four, Shape.rowMajor_val_three]
    show ((r.val * b + h.val) * 1 + 0) * d + l.val = (r.val * b + h.val) * d + l.val
    rw [Nat.mul_one, Nat.add_zero]
  · match a with
    | ⟨0, _⟩ => exact (Nat.zero_add _).symm
    | ⟨1, _⟩ => exact (Nat.zero_add _).symm
    | ⟨2, _⟩ => exact hk
    | ⟨3, _⟩ => exact (Nat.zero_add _).symm

/-- Half `h` of a row. -/
def halfRow (x : FVec Ideal S1024x16384 .f32) (r : Fin 1024) (h : Fin 2) (c : Fin 8192) : EReal :=
  x (ix2 r ⟨8192 * h.val + c.val, by omega⟩)

variable [Facts] (x : FVec Ideal S1024x16384 .f32)

/-- The lanes of every row and half, sorted. -/
def sortedLanes : FVec Ideal S1024x2x16x512 .f32 :=
  fn_sort (shapeCast S1024x2x16x512 x Facts.shapeCasts_S1024x16384_S1024x2x16x512)

/-- The greatest of every lane; -/
def firsts : FVec Ideal S1024x2x512 .f32 := shapeCast S1024x2x512 (extractStridedSlice S1024x2x1x512 ![0, 0, 15, 0] (sortedLanes x)
  Facts.slices_S1024x2x16x512_S1024x2x1x512_0_0_15_0) Facts.shapeCasts_S1024x2x1x512_S1024x2x512
/-- the second; -/
def seconds : FVec Ideal S1024x2x512 .f32 := shapeCast S1024x2x512 (extractStridedSlice S1024x2x1x512 ![0, 0, 14, 0] (sortedLanes x)
  Facts.slices_S1024x2x16x512_S1024x2x1x512_0_0_14_0) Facts.shapeCasts_S1024x2x1x512_S1024x2x512
/-- the third. -/
def thirds : FVec Ideal S1024x2x512 .f32 := shapeCast S1024x2x512 (extractStridedSlice S1024x2x1x512 ![0, 0, 13, 0] (sortedLanes x)
  Facts.slices_S1024x2x16x512_S1024x2x1x512_0_0_13_0) Facts.shapeCasts_S1024x2x1x512_S1024x2x512

/-- The second level's values. -/
def levels : FVec Ideal S1024x2x1024 .f32 := concatenate S1024x2x1024 2 [⟨S1024x2x512, firsts x⟩,
  ⟨S1024x2x512, fn_roll_static (seconds x)⟩] Facts.concatenates_S1024x2x512_S1024x2x512_S1024x2x1024_d2

/-- The buckets of every row and half, sorted. -/
def sortedBuckets : FVec Ideal S1024x2x8x128 .f32 :=
  fn_sort_0 (shapeCast S1024x2x8x128 (levels x) Facts.shapeCasts_S1024x2x1024_S1024x2x8x128)

/-- The third of every bucket. -/
def bucketThirds : FVec Ideal S1024x2x128 .f32 := shapeCast S1024x2x128 (extractStridedSlice S1024x2x1x128 ![0, 0, 5, 0]
  (sortedBuckets x) Facts.slices_S1024x2x8x128_S1024x2x1x128_0_0_5_0) Facts.shapeCasts_S1024x2x1x128_S1024x2x128

/-- The half rows, sorted. -/
def sortedHalves : FVec Ideal S1024x2x8192 .f32 :=
  fn_sort_1 (shapeCast S1024x2x8192 x Facts.shapeCasts_S1024x16384_S1024x2x8192)

/-- The entries of a half row that occur twice. -/
def twice : FVec Ideal S1024x2x8191 .f32 :=
  fn_where (cmpf .oeq (extractStridedSlice S1024x2x8191 ![0, 0, 0] (sortedHalves x) Facts.slices_S1024x2x8192_S1024x2x8191_0_0_0)
      (extractStridedSlice S1024x2x8191 ![0, 0, 1] (sortedHalves x) Facts.slices_S1024x2x8192_S1024x2x8191_0_0_1))
    (extractStridedSlice S1024x2x8191 ![0, 0, 1] (sortedHalves x) Facts.slices_S1024x2x8192_S1024x2x8191_0_0_1)
    (constant S_ .f32 0xFF800000#32)

/-- The greatest value of each row that the kernel may lose. -/
def lost : FVec Ideal S1024 .f32 :=
  maximumf (maximumf
      (Host.reduce FloatOps.maximumf (thirds x) (constant S_ .f32 0xFF800000#32) Facts.reducesTo_S1024x2x512_S1024_d1_2 Facts.h_S_)
      (Host.reduce FloatOps.maximumf (bucketThirds x) (constant S_ .f32 0xFF800000#32) Facts.reducesTo_S1024x2x128_S1024_d1_2
        Facts.h_S_))
    (Host.reduce FloatOps.maximumf (twice x) (constant S_ .f32 0xFF800000#32) Facts.reducesTo_S1024x2x8191_S1024_d1_2 Facts.h_S_)

theorem mask_eq : fn x = cmpf .ogt (best x) (broadcastInDim S1024x32 ![0, 1] Facts.bcast_S1024x1_S1024x32_0_1
    (broadcastInDim S1024x1 ![0] Facts.bcast_S1024_S1024x1_0 (lost x))) := rfl

/-- Where the mask holds, the reference's value is above what the kernel may lose. -/
theorem lost_lt_best (r : Fin 1024) (i : Fin 32) (h : fn x (ix2 r i) = 1#1) : (lost x (ix1 r) : EReal) < best x (ix2 r i) := by
  rw [mask_eq] at h
  have e : broadcastInDim S1024x32 ![0, 1] Facts.bcast_S1024x1_S1024x32_0_1
      (broadcastInDim S1024x1 ![0] Facts.bcast_S1024_S1024x1_0 (lost x)) (ix2 r i) = lost x (ix1 r) := by
    refine congrArg (lost x) (funext fun b => ?_)
    match b with | ⟨0, _⟩ => rfl
  have := lt_of_ogt _ _ _ h
  rw [e] at this
  exact this

/-- Each part of what may be lost is no more than the whole. -/
theorem le_lost (r : Fin 1024) (h : Fin 2) : (∀ l, (thirds x (ix3 r h l) : EReal) ≤ lost x (ix1 r))
    ∧ (∀ b, (bucketThirds x (ix3 r h b) : EReal) ≤ lost x (ix1 r)) ∧ ∀ p, (twice x (ix3 r h p) : EReal) ≤ lost x (ix1 r) := by
  have h1 := le_reduce (thirds x) (constant S_ .f32 0xFF800000#32) Facts.reducesTo_S1024x2x512_S1024_d1_2 Facts.h_S_ r h
  have h2 := le_reduce (bucketThirds x) (constant S_ .f32 0xFF800000#32) Facts.reducesTo_S1024x2x128_S1024_d1_2 Facts.h_S_ r h
  have h3 := le_reduce (twice x) (constant S_ .f32 0xFF800000#32) Facts.reducesTo_S1024x2x8191_S1024_d1_2 Facts.h_S_ r h
  unfold lost
  obtain ⟨m1, m2, m3⟩ := le_max_three
    (Host.reduce FloatOps.maximumf (thirds x) (constant S_ .f32 0xFF800000#32) Facts.reducesTo_S1024x2x512_S1024_d1_2 Facts.h_S_)
    (Host.reduce FloatOps.maximumf (bucketThirds x) (constant S_ .f32 0xFF800000#32) Facts.reducesTo_S1024x2x128_S1024_d1_2
      Facts.h_S_)
    (Host.reduce FloatOps.maximumf (twice x) (constant S_ .f32 0xFF800000#32) Facts.reducesTo_S1024x2x8191_S1024_d1_2 Facts.h_S_)
    (ix1 r)
  exact ⟨fun l => (h1 l).trans m1, fun l => (h2 l).trans m2, fun l => (h3 l).trans m3⟩

/-- The sorted lanes of a half row. -/
def laneSorted (r : Fin 1024) (h : Fin 2) (l : Fin 512) (k : Fin 16) : EReal := sortedLanes x (ix4 r h k l)

theorem lane_sorted (r : Fin 1024) (h : Fin 2) (l : Fin 512) (y : EReal) :
    Monotone (laneSorted x r h l) ∧ many (laneSorted x r h l) y = many (laneAt (halfRow x r h) l) y := by
  obtain ⟨e, h1, h2⟩ := sort_four (shapeCast S1024x2x16x512 x Facts.shapeCasts_S1024x16384_S1024x2x16x512) byKey_mask r h 0 l
  refine ⟨h2, ?_⟩
  rw [← many_comp (laneAt (halfRow x r h) l) e y]
  congr 1
  funext k
  refine (h1 k).trans (shapeCast_apply x _ _ _ ?_)
  rw [Shape.rowMajor_val_two, Shape.rowMajor_val_four]
  show r.val * 16384 + (8192 * h.val + (512 * (e k).val + l.val)) = ((r.val * 2 + h.val) * 16 + (e k).val) * 512 + l.val
  omega

theorem third_eq (r : Fin 1024) (h : Fin 2) (l : Fin 512) : thirds x (ix3 r h l) = laneSorted x r h l 13 :=
  plane_apply (sortedLanes x) 13 _ _ r h 13 rfl l

theorem levels_eq (r : Fin 1024) (h : Fin 2) (q : Fin 1024) : levels x (ix3 r h q) = level (laneSorted x r h) q := by
  have hl : (laneOf q).val = if q.val < 512 then q.val else (q.val - 64) % 512 := rfl
  unfold level
  by_cases c : q.val < 512
  · rw [if_pos c] at hl ⊢
    refine (concatenate_pair_apply_left 2 (firsts x) (fn_roll_static (seconds x)) _ (ix3 r h q) rfl (ix3 r h (laneOf q)) fun b => ?_).trans
      (plane_apply (sortedLanes x) 15 _ _ r h 15 rfl (laneOf q))
    match b with | ⟨0, _⟩ => rfl | ⟨1, _⟩ => rfl | ⟨2, _⟩ => exact hl
  · rw [if_neg c] at hl ⊢
    refine (concatenate_pair_apply_right 2 (firsts x) (fn_roll_static (seconds x)) _ (ix3 r h q) rfl rfl (ix3 r h ⟨q.val - 512, by omega⟩)
      (fun b hb => ?_) (by show q.val - 512 + 512 = q.val; omega)).trans ?_
    · match b with | ⟨0, _⟩ => rfl | ⟨1, _⟩ => rfl | ⟨2, _⟩ => exact absurd rfl hb
    refine Eq.trans ?_ (plane_apply (sortedLanes x) 14 Facts.slices_S1024x2x16x512_S1024x2x1x512_0_0_14_0
      Facts.shapeCasts_S1024x2x1x512_S1024x2x512 r h 14 rfl (laneOf q))
    by_cases c2 : q.val < 576
    · refine (concatenate_pair_apply_left 2 (extractStridedSlice S1024x2x64 ![0, 0, 448] (seconds x) Facts.slices_S1024x2x512_S1024x2x64_0_0_448)
        (extractStridedSlice S1024x2x448 ![0, 0, 0] (seconds x) Facts.slices_S1024x2x512_S1024x2x448_0_0_0)
        Facts.concatenates_S1024x2x64_S1024x2x448_S1024x2x512_d2 (ix3 r h ⟨q.val - 512, by omega⟩) rfl (ix3 r h ⟨q.val - 512, by omega⟩) fun b => ?_).trans (extractStridedSlice_apply _ (seconds x) _ _ (ix3 r h (laneOf q)) fun b => ?_)
      · match b with | ⟨0, _⟩ => rfl | ⟨1, _⟩ => rfl | ⟨2, _⟩ => rfl
      · match b with
        | ⟨0, _⟩ => exact (Nat.zero_add _).symm
        | ⟨1, _⟩ => exact (Nat.zero_add _).symm
        | ⟨2, _⟩ => show (laneOf q).val = 448 + (q.val - 512); omega
    · refine (concatenate_pair_apply_right 2 (extractStridedSlice S1024x2x64 ![0, 0, 448] (seconds x) Facts.slices_S1024x2x512_S1024x2x64_0_0_448)
        (extractStridedSlice S1024x2x448 ![0, 0, 0] (seconds x) Facts.slices_S1024x2x512_S1024x2x448_0_0_0)
        Facts.concatenates_S1024x2x64_S1024x2x448_S1024x2x512_d2 (ix3 r h ⟨q.val - 512, by omega⟩) rfl rfl (ix3 r h ⟨q.val - 576, by omega⟩)
        (fun b hb => ?_) (by show q.val - 576 + 64 = q.val - 512; omega)).trans
        (extractStridedSlice_apply _ (seconds x) _ _ (ix3 r h (laneOf q)) fun b => ?_)
      · match b with | ⟨0, _⟩ => rfl | ⟨1, _⟩ => rfl | ⟨2, _⟩ => exact absurd rfl hb
      · match b with
        | ⟨0, _⟩ => exact (Nat.zero_add _).symm
        | ⟨1, _⟩ => exact (Nat.zero_add _).symm
        | ⟨2, _⟩ => show (laneOf q).val = 0 + (q.val - 576); rw [hl]; omega

/-- The third of a bucket is the third of its eight values. -/
theorem bucket_sorted (r : Fin 1024) (h : Fin 2) (b : Fin 128) (y : EReal)
    (hy : (bucketThirds x (ix3 r h b) : EReal) < y) : many (bucketAt (level (laneSorted x r h)) b) y ≤ 2 := by
  obtain ⟨e, h1, h2⟩ := sort_four (shapeCast S1024x2x8x128 (levels x) Facts.shapeCasts_S1024x2x1024_S1024x2x8x128) byKey_mask r h 0 b
  rw [← many_comp (bucketAt (level (laneSorted x r h)) b) e y]
  have hb : bucketThirds x (ix3 r h b) = sortedBuckets x (ix4 r h 5 b) := plane_apply (sortedBuckets x) 5 _ _ r h 5 rfl b
  have he : (fun k => bucketAt (level (laneSorted x r h)) b (e k)) = fun k => (sortedBuckets x (ix4 r h k b) : EReal) := by
    funext k
    refine Eq.trans ?_ (h1 k).symm
    refine (levels_eq x r h _).symm.trans (shapeCast_apply (levels x) _ _ _ ?_).symm
    rw [Shape.rowMajor_val_three, Shape.rowMajor_val_four]
    show (r.val * 2 + h.val) * 1024 + (128 * (e k).val + b.val) = ((r.val * 2 + h.val) * 8 + (e k).val) * 128 + b.val
    omega
  rw [he]
  by_contra hc
  rw [hb] at hy
  exact absurd (le_of_many h2 5 y (not_le.mp hc)) (not_le.mpr hy)

theorem half_sorted (r : Fin 1024) (h : Fin 2) (y : EReal) (hy : ∀ p, (twice x (ix3 r h p) : EReal) < y) (j k : Fin 8192)
    (hj : y ≤ halfRow x r h j) (hjk : halfRow x r h j = halfRow x r h k) : j = k := by
  obtain ⟨e, h1, h2⟩ := sort_three (shapeCast S1024x2x8192 x Facts.shapeCasts_S1024x16384_S1024x2x8192) byKey_mask r h 0
  have he : ∀ k, (sortedHalves x (ix3 r h k) : EReal) = halfRow x r h (e k) := by
    intro k
    refine (h1 k).trans (shapeCast_apply x _ _ _ ?_)
    rw [Shape.rowMajor_val_two, Shape.rowMajor_val_three]
    show r.val * 16384 + (8192 * h.val + (e k).val) = (r.val * 2 + h.val) * 8192 + (e k).val
    omega
  have ht : ∀ p : Fin 8191, (sortedHalves x (ix3 r h p.castSucc) : EReal) = sortedHalves x (ix3 r h p.succ) →
      (sortedHalves x (ix3 r h p.succ) : EReal) < y := by
    intro p hp
    refine lt_of_eq_of_lt ?_ (hy p)
    have e0 : extractStridedSlice S1024x2x8191 ![0, 0, 0] (sortedHalves x) Facts.slices_S1024x2x8192_S1024x2x8191_0_0_0 (ix3 r h p)
        = sortedHalves x (ix3 r h p.castSucc) := extractStridedSlice_apply _ _ _ _ _ fun b => by
      match b with
      | ⟨0, _⟩ => exact (Nat.zero_add _).symm
      | ⟨1, _⟩ => exact (Nat.zero_add _).symm
      | ⟨2, _⟩ => exact (Nat.zero_add _).symm
    have e1 : extractStridedSlice S1024x2x8191 ![0, 0, 1] (sortedHalves x) Facts.slices_S1024x2x8192_S1024x2x8191_0_0_1 (ix3 r h p)
        = sortedHalves x (ix3 r h p.succ) := extractStridedSlice_apply _ _ _ _ _ fun b => by
      match b with
      | ⟨0, _⟩ => exact (Nat.zero_add _).symm
      | ⟨1, _⟩ => exact (Nat.zero_add _).symm
      | ⟨2, _⟩ => show p.val + 1 = 1 + p.val; omega
    rw [← e0, ← e1] at hp
    rw [← e1]
    exact (select_oeq _ _ _ _ hp).symm
  have := distinct_of_sorted (n := 8191) h2 ht (e.symm j) (e.symm k)
    (by show y ≤ (sortedHalves x _ : EReal); rw [he, Equiv.apply_symm_apply]; exact hj)
    (by
      show (sortedHalves x _ : EReal) = sortedHalves x _
      rw [he, he, Equiv.apply_symm_apply, Equiv.apply_symm_apply]; exact hjk)
  exact e.symm.injective this

/-- Above what may be lost, nothing is. -/
theorem kept (r : Fin 1024) (h : Fin 2) {y : EReal} (hy : (lost x (ix1 r) : EReal) < y) : Kept (halfRow x r h) y := by
  obtain ⟨h1, h2, h3⟩ := le_lost x r h
  refine ⟨fun l => ?_, ⟨laneSorted x r h, fun l => lane_sorted x r h l y, fun b => bucket_sorted x r h b y ((h2 b).trans_lt hy)⟩,
    half_sorted x r h y fun p => (h3 p).trans_lt hy⟩
  obtain ⟨hm, he⟩ := lane_sorted x r h l y
  rw [← he]
  by_contra hc
  refine absurd (le_of_many hm 13 y (not_le.mp hc)) (not_le.mpr ?_)
  rw [← third_eq]
  exact (h1 l).trans_lt hy

end Cert.TopK
-- ==== Proof.Net.lean ====
/- The merge of two descending lists of thirty-two, on one row: every threshold sees only which entries reach it, so the
   network of exchanges is checked on words of thirty-two bits. -/
module

public import Idealize.ShloMosaic.PureOps
public import Idealize.ShloMosaic.PureOps.Ideal
public import Mathlib.Data.EReal.Basic

@[expose] public section

namespace Cert.TopK

/-- The bits of `w` say which of the thirty-two entries of `v` are at least `y`. -/
def Codes (v : Fin 32 → EReal) (y : EReal) (w : ℕ) : Prop := ∀ k : Fin 32, y ≤ v k ↔ w.testBit k.val = true

/-- One stage of the merge on a row: of two lanes `j` apart the lower one keeps the greater value. -/
structure Staged (j : ℕ) (v u : Fin 32 → EReal) : Prop where
  low : ∀ k k' : Fin 32, k.val % (2 * j) < j → k'.val = k.val + j → u k = max (v k) (v k')
  high : ∀ k k' : Fin 32, ¬ k.val % (2 * j) < j → k'.val + j = k.val → u k = min (v k) (v k')

/-- The stage on the bits; `m` holds the lower lanes, `m'` the upper ones. -/
def stageBits (j m m' w : ℕ) : ℕ := ((w ||| (w >>> j)) &&& m) ||| ((w &&& (w <<< j)) &&& m')

theorem Staged.codes {j m m' : ℕ} {v u : Fin 32 → EReal} (h : Staged j v u) {y : EReal} {w : ℕ} (hw : Codes v y w)
    (hm : ∀ k : Fin 32, m.testBit k.val = decide (k.val % (2 * j) < j) ∧ m'.testBit k.val = !decide (k.val % (2 * j) < j)
      ∧ (if k.val % (2 * j) < j then k.val + j < 32 else j ≤ k.val)) :
    Codes u y (stageBits j m m' w) := by
  intro k
  obtain ⟨h1, h2, h3⟩ := hm k
  unfold stageBits
  rw [Nat.testBit_or, Nat.testBit_and, Nat.testBit_and, Nat.testBit_or, Nat.testBit_and, Nat.testBit_shiftRight,
    Nat.testBit_shiftLeft, h1, h2]
  by_cases c : k.val % (2 * j) < j
  · rw [if_pos c] at h3
    rw [h.low k ⟨k.val + j, h3⟩ c rfl, le_max_iff, hw, hw, Nat.add_comm j]
    simp [c]
  · rw [if_neg c] at h3
    rw [h.high k ⟨k.val - j, by omega⟩ c (by simp; omega), le_min_iff, hw, hw]
    simp [c, h3]

/-- The five stages on the bits. -/
def mergeBits (w : ℕ) : ℕ :=
  stageBits 1 0x55555555 0xAAAAAAAA (stageBits 2 0x33333333 0xCCCCCCCC (stageBits 4 0x0F0F0F0F 0xF0F0F0F0
    (stageBits 8 0x00FF00FF 0xFF00FF00 (stageBits 16 0x0000FFFF 0xFFFF0000 w))))

/-- Of `p` entries from the front and `q` from the back the network makes `p + q` from the front. -/
theorem mergeBits_eq : ∀ p q : Fin 33, mergeBits ((2 ^ p.val - 1) ||| ((2 ^ q.val - 1) <<< (32 - q.val)))
    = 2 ^ (min 32 (p.val + q.val)) - 1 := by
  decide +kernel

/-- Two descending rows merged: entry `k` reaches `y` exactly when the two rows together have more than `k` entries that
    do. -/
theorem merged_iff {f g v v₁ v₂ v₃ v₄ v₅ : Fin 32 → EReal} {y : EReal} {p q : ℕ}
    (hp : p ≤ 32) (hq : q ≤ 32) (hf : ∀ k : Fin 32, y ≤ f k ↔ k.val < p) (hg : ∀ k : Fin 32, y ≤ g k ↔ k.val < q)
    (hv : ∀ k : Fin 32, v k = max (f k) (g k.rev)) (h₁ : Staged 16 v v₁) (h₂ : Staged 8 v₁ v₂) (h₃ : Staged 4 v₂ v₃)
    (h₄ : Staged 2 v₃ v₄) (h₅ : Staged 1 v₄ v₅) (k : Fin 32) : y ≤ v₅ k ↔ k.val < p + q := by
  have h0 : Codes v y ((2 ^ p - 1) ||| ((2 ^ q - 1) <<< (32 - q))) := by
    intro k
    rw [hv, le_max_iff, hf, hg, Nat.testBit_or, Nat.testBit_shiftLeft, Nat.testBit_two_pow_sub_one,
      Nat.testBit_two_pow_sub_one, Fin.val_rev]
    have := k.isLt
    simp only [Bool.or_eq_true, Bool.and_eq_true, decide_eq_true_eq]
    omega
  have h5 := h₅.codes (m := 0x55555555) (m' := 0xAAAAAAAA) (h₄.codes (m := 0x33333333) (m' := 0xCCCCCCCC)
    (h₃.codes (m := 0x0F0F0F0F) (m' := 0xF0F0F0F0) (h₂.codes (m := 0x00FF00FF) (m' := 0xFF00FF00)
    (h₁.codes (m := 0x0000FFFF) (m' := 0xFFFF0000) h0 (by decide)) (by decide)) (by decide)) (by decide)) (by decide)
  have e := mergeBits_eq ⟨p, by omega⟩ ⟨q, by omega⟩
  have h := h5 k
  unfold mergeBits at e
  rw [e, Nat.testBit_two_pow_sub_one] at h
  rw [h]
  have := k.isLt
  simp only [decide_eq_true_eq]
  omega

end Cert.TopK
-- ==== Proof.Merge.lean ====
/- The merge of two lists, row by row, on the extended reals. -/
module

public import proofs.«01_k».proof.Proof.Net
public import proofs.«01_k».proof.Proof.Reads

@[expose] public section

noncomputable section

namespace Cert.TopK

open Idealize.ShloMosaic Idealize.ShloMosaic.ValueIdx Cert.KernelIdeal

/-- Whether the word `w` is in the lower half of its block of `n`, as the kernel computes it. -/
def lowWord (n j w : BitVec 32) : BitVec 1 :=
  let z : BitVec 32 := Scalar.select (Scalar.cmpi .eq n 0#32) 1#32 n
  let r : BitVec 32 := IntOp.remsi .vector w z
  let b : BitVec 1 := IntOp.andi (IntOp.xori (IntOp.cmpi .slt r 0#32) (Scalar.cmpi .slt z 0#32)) (IntOp.cmpi .ne r 0#32)
  IntOp.cmpi .slt (Scalar.select b (IntOp.addi r z) r) j

/-- Whether a lane of thirty-two is in the lower half of its block of `n`. -/
def lowBit (n j : BitVec 32) (k : Fin 32) : BitVec 1 := lowWord n j (BitVec.ofNat 32 k.val)

theorem low_apply (n j : BitVec 32) (r : Fin 512) (k : Fin 32) : low n j (ix2 r k) = lowBit n j k := by
  have hi : iota .tc S1x32 32 [1] (by decide) (ix2 (0 : Fin 1) k) = BitVec.ofNat 32 k.val := iota_single_apply _ _ _ _ _ _
  unfold low lowBit
  rw [← hi]
  generalize iota .tc S1x32 32 [1] _ = i
  rw [broadcastTo_apply _ _ (ix2 r k) (ix2 0 k) (fun a => by match a with | ⟨0, _⟩ => rfl | ⟨1, _⟩ => rfl), shapeCast_self]
  rfl

/-- The lanes turned so that lane `k` reads lane `k + o`, around the thirty-two. -/
theorem turn_apply {p o : ℕ} (hp : p + o = 32) (v : FVec Ideal S512x32 .f32)
    (h₁ : S512x32.Slices ![0, o] ⟨2, ![512, p]⟩) (h₂ : S512x32.Slices ![0, 0] ⟨2, ![512, o]⟩)
    (h : Shape.Concatenates [⟨2, ![512, p]⟩, ⟨2, ![512, o]⟩] S512x32 1) (r : Fin 512) (k : Fin 32) :
    turn ⟨2, ![512, p]⟩ ⟨2, ![512, o]⟩ o v h₁ h₂ h (ix2 r k) = row v r ⟨(k.val + o) % 32, Nat.mod_lt _ (by decide)⟩ := by
  unfold turn
  by_cases hk : k.val < p
  · rw [(pair_cols _ _ _ r k).1 hk]
    exact slice_cols o v h₁ r _ _ (by simp; omega)
  · have := k.isLt
    rw [(pair_cols _ _ _ r k).2 ⟨k.val - p, by omega⟩ (by simp; omega)]
    exact slice_cols 0 v h₂ r _ _ (by simp; omega)

/-- Which lane lane `k` reads in an exchange of lanes `j` apart. -/
def across (n j : BitVec 32) (o o' : ℕ) (k : Fin 32) : Fin 32 :=
  if lowBit n j k = 1#1 then ⟨(k.val + o) % 32, Nat.mod_lt _ (by decide)⟩ else ⟨(k.val + o') % 32, Nat.mod_lt _ (by decide)⟩

theorem swap_apply (n j : BitVec 32) {o o' : ℕ} {up dn : FVec Ideal S512x32 .f32} {v : FVec Ideal S512x32 .f32} {r : Fin 512}
    (hu : ∀ k, up (ix2 r k) = row v r ⟨(k.val + o) % 32, Nat.mod_lt _ (by decide)⟩)
    (hd : ∀ k, dn (ix2 r k) = row v r ⟨(k.val + o') % 32, Nat.mod_lt _ (by decide)⟩) (k : Fin 32) :
    row (swap (low n j) up dn) r k = row v r (across n j o o' k) := by
  show Scalar.select (low n j (ix2 r k)) (up (ix2 r k)) (dn (ix2 r k)) = _
  rw [low_apply, hu, hd]
  by_cases h : lowBit n j k = 1#1
  · rw [across, if_pos h, h]; rfl
  · rw [across, if_neg h, Scalar.select, if_neg (show ¬ lowBit n j k = 1 from h)]

/-- One stage of the merge, on a row. -/
theorem stage_apply (n j : BitVec 32) {o : ℕ} {up dn : FVec Ideal S512x32 .f32} {v : FVec Ideal S512x32 .f32} {r : Fin 512}
    (hl : ∀ k : Fin 32, (lowBit n j k = 1#1 ↔ k.val % (2 * o) < o))
    (ho : o ≤ 32)
    (hu : ∀ k, up (ix2 r k) = row v r ⟨(k.val + o) % 32, Nat.mod_lt _ (by decide)⟩)
    (hd : ∀ k, dn (ix2 r k) = row v r ⟨(k.val + (32 - o)) % 32, Nat.mod_lt _ (by decide)⟩) :
    Staged o (row v r) (row (stage (low n j) up dn v) r) := by
  have e : ∀ k, row (stage (low n j) up dn v) r k
      = Scalar.select (lowBit n j k) (max (row v r k) (up (ix2 r k))) (min (row v r k) (dn (ix2 r k))) := by
    intro k
    rw [← low_apply n j r k]
    rfl
  constructor
  · intro k k' hk hk'
    rw [e, Scalar.select, if_pos (show lowBit n j k = 1 from (hl k).mpr hk), hu]
    congr 2
    exact Fin.ext (by have := k'.isLt; simp; omega)
  · intro k k' hk hk'
    rw [e, Scalar.select, if_neg (show ¬ lowBit n j k = 1 from fun c => hk ((hl k).mp c)), hd]
    congr 2
    exact Fin.ext (by have := k.isLt; simp; omega)

/-- The five exchanges reverse the lanes. -/
theorem reversed_apply (v : FVec Ideal S512x32 .f32) (r : Fin 512) (k : Fin 32) : reversed v (ix2 r k) = row v r k.rev := by
  have h : ∀ k : Fin 32, across 32#32 16#32 16 16 (across 16#32 8#32 8 24 (across 8#32 4#32 4 28
      (across 4#32 2#32 2 30 (across 2#32 1#32 1 31 k)))) = k.rev := by decide +kernel
  rw [← h k]
  unfold reversed
  refine (swap_apply 2#32 1#32 (turn_apply (p := 31) (o := 1) rfl _ _ _ _ r) (turn_apply (p := 1) (o := 31) rfl _ _ _ _ r) _).trans ?_
  refine (swap_apply 4#32 2#32 (turn_apply (p := 30) (o := 2) rfl _ _ _ _ r) (turn_apply (p := 2) (o := 30) rfl _ _ _ _ r) _).trans ?_
  refine (swap_apply 8#32 4#32 (turn_apply (p := 28) (o := 4) rfl _ _ _ _ r) (turn_apply (p := 4) (o := 28) rfl _ _ _ _ r) _).trans ?_
  refine (swap_apply 16#32 8#32 (turn_apply (p := 24) (o := 8) rfl _ _ _ _ r) (turn_apply (p := 8) (o := 24) rfl _ _ _ _ r) _).trans ?_
  exact swap_apply 32#32 16#32 (turn_apply (p := 16) (o := 16) rfl _ _ _ _ r) (turn_apply (p := 16) (o := 16) rfl _ _ _ _ r) _

/-- Two rows that reach `y` on their first `p` and `q` lanes reach it, merged, on the first `p + q`. -/
theorem merge_iff (x z : FVec Ideal S512x32 .f32) (r : Fin 512) {y : EReal} {p q : ℕ} (hp : p ≤ 32) (hq : q ≤ 32)
    (hx : ∀ k, y ≤ row x r k ↔ k.val < p) (hz : ∀ k, y ≤ row z r k ↔ k.val < q) (k : Fin 32) :
    y ≤ row (merge x z) r k ↔ k.val < p + q := by
  unfold merge
  refine merged_iff hp hq hx hz (v := row (maximumf x (reversed z)) r) (fun k => ?_)
    (stage_apply 32#32 16#32 (o := 16) (by decide +kernel) (by decide) (turn_apply (p := 16) (o := 16) rfl _ _ _ _ r) (turn_apply (p := 16) (o := 16) rfl _ _ _ _ r))
    (stage_apply 16#32 8#32 (o := 8) (by decide +kernel) (by decide) (turn_apply (p := 24) (o := 8) rfl _ _ _ _ r) (turn_apply (p := 8) (o := 24) rfl _ _ _ _ r))
    (stage_apply 8#32 4#32 (o := 4) (by decide +kernel) (by decide) (turn_apply (p := 28) (o := 4) rfl _ _ _ _ r) (turn_apply (p := 4) (o := 28) rfl _ _ _ _ r))
    (stage_apply 4#32 2#32 (o := 2) (by decide +kernel) (by decide) (turn_apply (p := 30) (o := 2) rfl _ _ _ _ r) (turn_apply (p := 2) (o := 30) rfl _ _ _ _ r))
    (stage_apply 2#32 1#32 (o := 1) (by decide +kernel) (by decide) (turn_apply (p := 31) (o := 1) rfl _ _ _ _ r) (turn_apply (p := 1) (o := 31) rfl _ _ _ _ r)) k
  rw [← reversed_apply]
  rfl

end Cert.TopK
-- ==== Proof.Value.lean ====
/- The kernel's result is the reference's wherever the mask holds. -/
module

public import proofs.«01_k».proof.Defs
public import proofs.«01_k».proof.Proof.Launch
public import proofs.«01_k».proof.Proof.Mask
public import proofs.«01_k».proof.Proof.Merge
public import proofs.«01_k».proof.Proof.Gen.ReferenceIdeal.Run

@[expose] public section

noncomputable section

namespace Cert.TopK

open Idealize.ShloMosaic hiding ix1 ix2 eq_ix2
open Idealize.ShloMosaic.ValueIdx Idealize.ShloMosaic.TcCoe Idealize.SL.Sem Cert.KernelIdeal Cert.KernelIdeal.Gen

/-- Every device holds its block of the columns of `x`. -/
def Laid (m : (ℓ : Loc nD τ sig) → Buf (Elt Ideal) ℓ) (x : FVec Ideal Cert.On_recovered.S1024x16384 .f32) : Prop :=
  ∀ c : Dev nD, m ((c : Thread nD τ).loc main_arg0)
    = Layout.blockN ⟨2, ![1024, 8192]⟩ ⟨2, ![1024, 16384]⟩ (Layout.meshBlock [2, 2] ![[], [1]] c) x

variable {m : (ℓ : Loc nD τ sig) → Buf (Elt Ideal) ℓ} {x : FVec Ideal Cert.On_recovered.S1024x16384 .f32} (hm : Laid m x)
include hm

/-- A row of a device's row block is half a row of `x`. -/
theorem vrow_row (c : Dev nD) (r : Fin 4) (k : Fin 128) (R : Fin 1024) (hR : R.val = 512 * (c.val / 2) + 128 * r.val + k.val)
    (h : Fin 2) (hh : h.val = c.val % 2) : row (vrow m c r) k = halfRow x R h := by
  funext j
  have e0 : k0_off1 c (BitVec.ofNat 32 (128 * r.val)) 0 = 512 * (c.val / 2) + 128 * r.val := by rw [k0_off1_eq]; rfl
  have e1 : k0_off1 c (BitVec.ofNat 32 (128 * r.val)) 1 = 0 := by rw [k0_off1_eq]; rfl
  show m ((c : Thread nD τ).loc main_arg0) ((source c r).view.emb (ix2 k j)) = _
  rw [hm c, Layout.blockN_apply]
  refine congrArg x (funext fun b => Fin.ext ?_)
  rw [Layout.TilesN.idx_val]
  match b with
  | ⟨0, _⟩ =>
    show 0 * 1024 + (k0_off1 c (BitVec.ofNat 32 (128 * r.val)) 0 + 1 * k.val) = R.val
    rw [e0, hR]
    omega
  | ⟨1, _⟩ =>
    show (c.val / 1 % 2 * 1 + 0) * 8192 + (k0_off1 c (BitVec.ofNat 32 (128 * r.val)) 1 + 1 * j.val) = 8192 * h.val + j.val
    rw [e1, hh]
    omega

variable [Cert.On_recovered.Facts]

/-- Column `i` of a list reaches `y`, above what may be lost of its row, exactly when more than `i` of its half row's
    entries do. -/
theorem lists_iff (c : Dev nD) (s : Fin 2) (k : Fin 256) (R : Fin 1024) (hR : R.val = 512 * (c.val / 2) + 256 * s.val + k.val)
    (h : Fin 2) (hh : h.val = c.val % 2) {y : EReal} (hy : (lost x (ix1 R) : EReal) < y) (i : Fin 32) :
    y ≤ row (lists m c s) k i ↔ i.val < many (halfRow x R h) y :=
  list_iff (vrow m c (lower s)) (vrow m c (upper s)) k (halfRow x R h)
    ⟨fun hk => vrow_row hm c (lower s) ⟨k.val, hk⟩ R (by show R.val = 512 * (c.val / 2) + 128 * (2 * s.val) + k.val; omega) h hh,
      fun k' hk => vrow_row hm c (upper s) k' R (by
        show R.val = 512 * (c.val / 2) + 128 * (2 * s.val + 1) + k'.val; omega) h hh⟩
    (bot_le.trans_lt hy) (kept x R h hy) i

omit hm [Cert.On_recovered.Facts] in
/-- A row's entries that reach `y` are those of its halves. -/
theorem many_halves (x : FVec Ideal Cert.On_recovered.S1024x16384 .f32) (R : Fin 1024) (h h' : Fin 2) (hh : h ≠ h') (y : EReal) :
    many (fun c => (x (ix2 R c) : EReal)) y = many (halfRow x R h) y + many (halfRow x R h') y := by
  have e : many (fun c => (x (ix2 R c) : EReal)) y = many (halfRow x R 0) y + many (halfRow x R 1) y := by
    rw [← many_comp (fun c => (x (ix2 R c) : EReal)) (finSumFinEquiv (m := 8192) (n := 8192)) y, many_sum]
    refine congrArg₂ (· + ·) ?_ ?_
    · refine congrArg (many · y) (funext fun c => congrArg x ?_)
      funext b
      match b with
      | ⟨0, _⟩ => rfl
      | ⟨1, _⟩ => exact Fin.ext (by show c.val = 8192 * 0 + c.val; omega)
    · refine congrArg (many · y) (funext fun c => congrArg x ?_)
      funext b
      match b with
      | ⟨0, _⟩ => rfl
      | ⟨1, _⟩ => exact Fin.ext (by show 8192 + c.val = 8192 * 1 + c.val; omega)
  rw [e]
  match h, h', hh with
  | 0, 1, _ => rfl
  | 1, 0, _ => exact Nat.add_comm _ _
  | 0, 0, hh => exact absurd rfl hh
  | 1, 1, hh => exact absurd rfl hh

/-- Column `i` of two lists merged, of the two halves of a row, reaches `y` exactly when more than `i` of the row's
    entries do. -/
theorem merged_row (c c' : Dev nD) (s : Fin 2) (k : Fin 256) (R : Fin 1024) (hR : R.val = 512 * (c.val / 2) + 256 * s.val + k.val)
    (hx : c'.val / 2 = c.val / 2) (hn : c'.val % 2 ≠ c.val % 2) {y : EReal} (hy : (lost x (ix1 R) : EReal) < y)
    (u v : FVec Ideal S512x32 .f32) (q : Fin 512) (hu : row u q = row (lists m c s) k) (hv : row v q = row (lists m c' s) k)
    (i : Fin 32) : y ≤ row (merge u v) q i ↔ i.val < many (fun c => (x (ix2 R c) : EReal)) y := by
  have h1 := lists_iff hm c s k R hR ⟨c.val % 2, Nat.mod_lt _ (by decide)⟩ rfl hy
  have h2 := lists_iff hm c' s k R (by rw [hx]; exact hR) ⟨c'.val % 2, Nat.mod_lt _ (by decide)⟩ rfl hy
  rw [many_halves x R ⟨c.val % 2, Nat.mod_lt _ (by decide)⟩ ⟨c'.val % 2, Nat.mod_lt _ (by decide)⟩
    (fun e => hn (congrArg Fin.val e).symm) y]
  generalize many (halfRow x R _) y = p at h1 ⊢
  generalize many (halfRow x R _) y = p' at h2 ⊢
  rw [merge_iff u v q (p := min p 32) (q := min p' 32) (min_le_right _ _) (min_le_right _ _)
    (fun k => by rw [hu, h1]; omega) (fun k => by rw [hv, h2]; omega) i]
  omega

/-- Column `i` of a row of the result reaches `y`, above what may be lost of the row, exactly when the reference's
    does. -/
theorem out_iff (c : Dev nD) (R : Fin 1024) (i : Fin 32) {y : EReal} (hy : (lost x (ix1 R) : EReal) < y) :
    y ≤ (outAt m c (ix2 R i) : EReal) ↔ y ≤ (best x (ix2 R i) : EReal) := by
  rw [best_iff]
  have hc := c.isLt
  have hp0 : (peer 0 c).val / 2 = c.val / 2 ∧ (peer 0 c).val % 2 ≠ c.val % 2 := by revert c; decide
  have hp : (peer 1 c).val / 2 = 1 - c.val / 2 ∧ (peer 2 c).val / 2 = 1 - c.val / 2
    ∧ (peer 2 c).val % 2 ≠ (peer 1 c).val % 2 := by revert c; decide
  let k : Fin 256 := ⟨R.val % 256, Nat.mod_lt _ (by decide)⟩
  let s : Fin 2 := ⟨R.val % 512 / 256, by omega⟩
  by_cases h : R.val / 512 = c.val / 2
  · have e : spot c (ix2 R i) = ix2 (⟨R.val % 256, by omega⟩ : Fin 512) i := by
      funext b
      match b with | ⟨0, _⟩ => exact Fin.ext (if_pos h) | ⟨1, _⟩ => rfl
    refine Iff.trans (Eq.to_iff (congrArg (fun t => y ≤ (whole m c s t : EReal)) e)) ?_
    refine merged_row hm c (peer 0 c) s k R (by show R.val = 512 * (c.val / 2) + 256 * (R.val % 512 / 256) + R.val % 256; omega)
      hp0.1 hp0.2 hy _ _ ⟨R.val % 256, by omega⟩ (funext fun j => ?_) (funext fun j => ?_) i
    · exact (pair_rows _ _ _ (⟨R.val % 256, by omega⟩ : Fin 512) j).1 (Nat.mod_lt _ (by decide))
    · exact (pair_rows _ _ _ (⟨R.val % 256, by omega⟩ : Fin 512) j).1 (Nat.mod_lt _ (by decide))
  · have e : spot c (ix2 R i) = ix2 (⟨256 + R.val % 256, by omega⟩ : Fin 512) i := by
      funext b
      match b with | ⟨0, _⟩ => exact Fin.ext (if_neg h) | ⟨1, _⟩ => rfl
    refine Iff.trans (Eq.to_iff (congrArg (fun t => y ≤ (whole m c s t : EReal)) e)) ?_
    refine merged_row hm (peer 1 c) (peer 2 c) s k R (by
        show R.val = 512 * ((peer 1 c).val / 2) + 256 * (R.val % 512 / 256) + R.val % 256
        have : c.val < 4 := hc
        rw [hp.1]; omega) (hp.2.1.trans hp.1.symm) hp.2.2 hy _ _ ⟨256 + R.val % 256, by omega⟩
      (funext fun j => ?_) (funext fun j => ?_) i
    · exact (pair_rows _ _ _ (⟨256 + R.val % 256, by omega⟩ : Fin 512) j).2 k (Nat.add_comm _ _)
    · exact (pair_rows _ _ _ (⟨256 + R.val % 256, by omega⟩ : Fin 512) j).2 k (Nat.add_comm _ _)

/-- Where the mask holds, the result is the reference's. -/
theorem out_eq (c : Dev nD) (j : Cert.On_recovered.S1024x32.Idx) (hj : Cert.On_recovered.fn x j = 1#1) : outAt m c j = best x j := by
  rw [eq_ix2 j] at hj ⊢
  have hl := lost_lt_best x (j 0) (j 1) hj
  have h1 := (out_iff hm c (j 0) (j 1) hl).mpr le_rfl
  exact le_antisymm ((out_iff hm c (j 0) (j 1) (hl.trans_le h1)).mp le_rfl) h1

omit hm in
theorem algebraic : Cert.algebraic_KernelIdeal_ReferenceIdeal_on_recovered := fun m ρ m' ρ' _ hm =>
  ⟨best (m' (((0 : Dev Cert.ReferenceIdeal.nD).tc : Thread Cert.ReferenceIdeal.nD Cert.ReferenceIdeal.τ).loc Cert.ReferenceIdeal.main_arg0)),
    (θ_run Cert.KernelIdeal.defs _ _).mono (fun r h c => ⟨fun i hi => (congrFun (h.1 c).1 i).trans (out_eq hm c i hi), (h.1 c).2⟩)
      (run_main (F := Ideal) m ρ),
    (θ_run Cert.ReferenceIdeal.defs _ _).mono (fun r h => ⟨fun i _ => congrFun (h 0).1 i, (h 0).2⟩)
      (Cert.ReferenceIdeal.Value.run (F := Ideal) m' ρ')⟩

end Cert.TopK
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_recovered
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.On_recovered.Gen.facts, Cert.TopK.frame_kernel, Cert.TopK.frame_ideal, Cert.TopK.frame_reference, trivial,
  Cert.TopK.algebraic⟩

end Cert.Proof

end
